-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_token_is_a_boundary [hPre_every_token_is_a_boundary : Cert.Pre_every_token_is_a_boundary.Facts] (m : (ℓ : Loc Cert.KernelIdeal.nD Cert.KernelIdeal.τ Cert.KernelIdeal.sig) → Buf (Elt Ideal) ℓ) : Prop :=
  ∀ c : Dev Cert.KernelIdeal.nD,
    (Cert.Pre_every_token_is_a_boundary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_token_is_a_boundary [hPre_every_token_is_a_boundary : Cert.Pre_every_token_is_a_boundary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_token_is_a_boundary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_every_token_is_a_boundary [hKernelIdeal : Cert.KernelIdeal.Facts] [hPre_every_token_is_a_boundary : Cert.Pre_every_token_is_a_boundary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_token_is_a_boundary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_every_token_is_a_boundary [hReferenceIdeal : Cert.ReferenceIdeal.Facts] [hPre_every_token_is_a_boundary : Cert.Pre_every_token_is_a_boundary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_token_is_a_boundary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_every_token_is_a_boundary [hKernelIdeal : Cert.KernelIdeal.Facts] [hReferenceIdeal : Cert.ReferenceIdeal.Facts] [hPre_every_token_is_a_boundary : Cert.Pre_every_token_is_a_boundary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_token_is_a_boundary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_every_token_is_a_boundary : Cert.Pre_every_token_is_a_boundary.Facts),
    quiescent_Kernel (hKernel := hKernel)
    ∧ quiescent_KernelIdeal (hKernelIdeal := hKernelIdeal)
    ∧ quiescent_KernelIdeal_pre_every_token_is_a_boundary (hKernelIdeal := hKernelIdeal) (hPre_every_token_is_a_boundary := hPre_every_token_is_a_boundary)
    ∧ quiescent_ReferenceIdeal (hReferenceIdeal := hReferenceIdeal)
    ∧ quiescent_ReferenceIdeal_pre_every_token_is_a_boundary (hReferenceIdeal := hReferenceIdeal) (hPre_every_token_is_a_boundary := hPre_every_token_is_a_boundary)
    ∧ preserves_Kernel_KernelIdeal
    ∧ algebraic_KernelIdeal_ReferenceIdeal_pre_every_token_is_a_boundary (hKernelIdeal := hKernelIdeal) (hReferenceIdeal := hReferenceIdeal) (hPre_every_token_is_a_boundary := hPre_every_token_is_a_boundary)
-- ==== Pre_every_token_is_a_boundary.lean ====
abbrev S4x4096x2048 : Shape := ⟨3, ![4, 4096, 2048]⟩
abbrev S4x4096 : Shape := ⟨2, ![4, 4096]⟩
abbrev S4x4096x2 : Shape := ⟨3, ![4, 4096, 2]⟩

class Facts : Prop where

variable [Facts]

def fn {F : FTy → Type} [FloatOps F] (main_arg0 : FVec F S4x4096x2048 .f32) (main_arg1 : IVec S4x4096 1) (main_arg2 : FVec F S4x4096x2 .f32) : IVec S4x4096 1 :=
  main_arg1
-- ==== Kernel.lean ====
abbrev S4x4096x2048 : Shape := ⟨3, ![4, 4096, 2048]⟩
abbrev S4x4096 : Shape := ⟨2, ![4, 4096]⟩
abbrev S4x4096x2 : Shape := ⟨3, ![4, 4096, 2]⟩
abbrev S1x512x2048 : Shape := ⟨3, ![1, 512, 2048]⟩
abbrev S1x512x2 : Shape := ⟨3, ![1, 512, 2]⟩
abbrev S8x2048 : Shape := ⟨2, ![8, 2048]⟩
abbrev S1x512x1 : Shape := ⟨3, ![1, 512, 1]⟩
abbrev S512x1 : Shape := ⟨2, ![512, 1]⟩
abbrev S512 : Shape := ⟨1, ![512]⟩
abbrev S1x512 : Shape := ⟨2, ![1, 512]⟩
abbrev S512x512 : Shape := ⟨2, ![512, 512]⟩
abbrev S512x513 : Shape := ⟨2, ![512, 513]⟩
abbrev S512x7 : Shape := ⟨2, ![512, 7]⟩
abbrev S512x8 : Shape := ⟨2, ![512, 8]⟩
abbrev S512x2048 : Shape := ⟨2, ![512, 2048]⟩
abbrev S1x2048 : Shape := ⟨2, ![1, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i1⟩
  | .hbm, ⟨2, _⟩ => ⟨S4x4096x2, .f32⟩
  | .hbm, ⟨3, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2, .f32⟩
  | .local _ .vmem, ⟨3, _⟩ => ⟨S1x512x2, .f32⟩
  | .local _ .vmem, ⟨4, _⟩ => ⟨S1x512x2048, .f32⟩
  | .local _ .vmem, ⟨5, _⟩ => ⟨S1x512x2048, .f32⟩
  | .local _ .vmem, ⟨6, _⟩ => ⟨S8x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x4096x2048 : Shape := ⟨3, ![4, 4096, 2048]⟩
abbrev S4x4096 : Shape := ⟨2, ![4, 4096]⟩
abbrev S4x4096x2 : Shape := ⟨3, ![4, 4096, 2]⟩
abbrev S4x4096x1 : Shape := ⟨3, ![4, 4096, 1]⟩
abbrev S_ : Shape := ⟨0, ![]⟩
abbrev S4096 : Shape := ⟨1, ![4096]⟩
abbrev S1x4096 : Shape := ⟨2, ![1, 4096]⟩
abbrev S1 : Shape := ⟨1, ![1]⟩
abbrev S1x1x1 : Shape := ⟨3, ![1, 1, 1]⟩
abbrev S4096x4x2048 : Shape := ⟨3, ![4096, 4, 2048]⟩
abbrev S4x2048 : Shape := ⟨2, ![4, 2048]⟩
abbrev S1x4x2048 : Shape := ⟨3, ![1, 4, 2048]⟩
abbrev S4x4096x2048x1 : Shape := ⟨4, ![4, 4096, 2048, 1]⟩
abbrev S1x1x1x1 : Shape := ⟨4, ![1, 1, 1, 1]⟩

abbrev nBuf : Space → Nat
  | .hbm => 117
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i1⟩
  | .hbm, ⟨2, _⟩ => ⟨S4x4096x2, .f32⟩
  | .hbm, ⟨3, _⟩ => ⟨S4x4096x1, .f32⟩
  | .hbm, ⟨4, _⟩ => ⟨S4x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S_, .f32⟩
  | .hbm, ⟨11, _⟩ => ⟨S4x4096, .f32⟩
  | .hbm, ⟨12, _⟩ => ⟨S4x4096, .f32⟩
  | .hbm, ⟨13, _⟩ => ⟨S4096, .i32⟩
  | .hbm, ⟨14, _⟩ => ⟨S1x4096, .i32⟩
  | .hbm, ⟨15, _⟩ => ⟨S4x4096, .i1⟩
  | .hbm, ⟨16, _⟩ => ⟨S4x4096, .i32⟩
  | .hbm, ⟨17, _⟩ => ⟨S_, .i32⟩
  | .hbm, ⟨18, _⟩ => ⟨S4x4096, .i32⟩
  | .hbm, ⟨19, _⟩ => ⟨S4x4096, .i32⟩
  | .hbm, ⟨20, _⟩ => ⟨S4x4096, .i32⟩
  | .hbm, ⟨21, _⟩ => ⟨S4x4096, .i32⟩
  | .hbm, ⟨22, _⟩ => ⟨S4x4096, .i32⟩
  | .hbm, ⟨23, _⟩ => ⟨S4x4096, .i32⟩
  | .hbm, ⟨24, _⟩ => ⟨S4x4096, .i32⟩
  | .hbm, ⟨25, _⟩ => ⟨S_, .i32⟩
  | .hbm, ⟨26, _⟩ => ⟨S4x4096, .i32⟩
  | .hbm, ⟨27, _⟩ => ⟨S4x4096, .i1⟩
  | .hbm, ⟨28, _⟩ => ⟨S_, .i32⟩
  | .hbm, ⟨29, _⟩ => ⟨S4x4096, .i32⟩
  | .hbm, ⟨30, _⟩ => ⟨S4x4096, .i32⟩
  | .hbm, ⟨31, _⟩ => ⟨S4x4096, .i32⟩
  | .hbm, ⟨32, _⟩ => ⟨S4x4096x1, .i32⟩
  | .hbm, ⟨33, _⟩ => ⟨S1, .i32⟩
  | .hbm, ⟨34, _⟩ => ⟨S_, .i32⟩
  | .hbm, ⟨35, _⟩ => ⟨S4x4096x1, .i32⟩
  | .hbm, ⟨36, _⟩ => ⟨S4x4096x1, .i1⟩
  | .hbm, ⟨37, _⟩ => ⟨S1x1x1, .i32⟩
  | .hbm, ⟨38, _⟩ => ⟨S4x4096x1, .i32⟩
  | .hbm, ⟨39, _⟩ => ⟨S4x4096x1, .i1⟩
  | .hbm, ⟨40, _⟩ => ⟨S4x4096x1, .i1⟩
  | .hbm, ⟨41, _⟩ => ⟨S_, .i1⟩
  | .hbm, ⟨42, _⟩ => ⟨S4x4096, .i1⟩
  | .hbm, ⟨43, _⟩ => ⟨S4x4096, .f32⟩
  | .hbm, ⟨44, _⟩ => ⟨S_, .f32⟩
  | .hbm, ⟨45, _⟩ => ⟨S4x4096, .f32⟩
  | .hbm, ⟨46, _⟩ => ⟨S4x4096, .f32⟩
  | .hbm, ⟨47, _⟩ => ⟨S4x4096, .i32⟩
  | .hbm, ⟨48, _⟩ => ⟨S_, .i32⟩
  | .hbm, ⟨49, _⟩ => ⟨S_, .i32⟩
  | .hbm, ⟨50, _⟩ => ⟨S4x4096, .i32⟩
  | .hbm, ⟨51, _⟩ => ⟨S_, .i32⟩
  | .hbm, ⟨52, _⟩ => ⟨S4x4096, .i32⟩
  | .hbm, ⟨53, _⟩ => ⟨S4x4096, .i32⟩
  | .hbm, ⟨54, _⟩ => ⟨S4x4096x1, .i32⟩
  | .hbm, ⟨55, _⟩ => ⟨S4x4096x2048, .i32⟩
  | .hbm, ⟨56, _⟩ => ⟨S4x4096x1, .f32⟩
  | .hbm, ⟨57, _⟩ => ⟨S4x4096x2048, .f32⟩
  | .hbm, ⟨58, _⟩ => ⟨S4x4096x2048, .f32⟩
  | .hbm, ⟨59, _⟩ => ⟨S_, .f32⟩
  | .hbm, ⟨60, _⟩ => ⟨S4x4096, .f32⟩
  | .hbm, ⟨61, _⟩ => ⟨S4x4096, .f32⟩
  | .hbm, ⟨62, _⟩ => ⟨S4x4096x1, .f32⟩
  | .hbm, ⟨63, _⟩ => ⟨S4x4096x2048, .f32⟩
  | .hbm, ⟨64, _⟩ => ⟨S4096x4x2048, .f32⟩
  | .hbm, ⟨65, _⟩ => ⟨S4096x4x2048, .f32⟩
  | .hbm, ⟨66, _⟩ => ⟨S_, .f32⟩
  | .hbm, ⟨67, _⟩ => ⟨S4x2048, .f32⟩
  | .hbm, ⟨68, _⟩ => ⟨S_, .f32⟩
  | .hbm, ⟨69, _⟩ => ⟨S4096x4x2048, .f32⟩
  | .hbm, ⟨70, _⟩ => ⟨S_, .i32⟩
  | .hbm, ⟨71, _⟩ => ⟨S4096x4x2048, .f32⟩
  | .hbm, ⟨72, _⟩ => ⟨S4096x4x2048, .f32⟩
  | .hbm, ⟨73, _⟩ => ⟨S_, .i32⟩
  | .hbm, ⟨74, _⟩ => ⟨S4x2048, .f32⟩
  | .hbm, ⟨75, _⟩ => ⟨S4096x4x2048, .f32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S1x4x2048, .f32⟩
  | .hbm, ⟨81, _⟩ => ⟨S4x2048, .f32⟩
  | .hbm, ⟨82, _⟩ => ⟨S_, .i32⟩
  | .hbm, ⟨83, _⟩ => ⟨S_, .i32⟩
  | .hbm, ⟨84, _⟩ => ⟨S1x4x2048, .f32⟩
  | .hbm, ⟨85, _⟩ => ⟨S4x2048, .f32⟩
  | .hbm, ⟨86, _⟩ => ⟨S4x2048, .f32⟩
  | .hbm, ⟨87, _⟩ => ⟨S4x2048, .f32⟩
  | .hbm, ⟨88, _⟩ => ⟨S1x4x2048, .f32⟩
  | .hbm, ⟨89, _⟩ => ⟨S_, .i32⟩
  | .hbm, ⟨90, _⟩ => ⟨S_, .i32⟩
  | .hbm, ⟨91, _⟩ => ⟨S4096x4x2048, .f32⟩
  | .hbm, ⟨92, _⟩ => ⟨S_, .i32⟩
  | .hbm, ⟨93, _⟩ => ⟨S_, .i32⟩
  | .hbm, ⟨94, _⟩ => ⟨S4x4096x2048, .f32⟩
  | .hbm, ⟨95, _⟩ => ⟨S_, .i32⟩
  | .hbm, ⟨96, _⟩ => ⟨S4x4096x2048, .i32⟩
  | .hbm, ⟨97, _⟩ => ⟨S4x4096x2048, .i1⟩
  | .hbm, ⟨98, _⟩ => ⟨S_, .i32⟩
  | .hbm, ⟨99, _⟩ => ⟨S4x4096x2048, .i32⟩
  | .hbm, ⟨100, _⟩ => ⟨S4x4096x2048, .i32⟩
  | .hbm, ⟨101, _⟩ => ⟨S4x4096x2048, .i32⟩
  | .hbm, ⟨102, _⟩ => ⟨S4x4096x2048x1, .i32⟩
  | .hbm, ⟨103, _⟩ => ⟨S1, .i32⟩
  | .hbm, ⟨104, _⟩ => ⟨S_, .i32⟩
  | .hbm, ⟨105, _⟩ => ⟨S4x4096x2048x1, .i32⟩
  | .hbm, ⟨106, _⟩ => ⟨S4x4096x2048x1, .i1⟩
  | .hbm, ⟨107, _⟩ => ⟨S1x1x1x1, .i32⟩
  | .hbm, ⟨108, _⟩ => ⟨S4x4096x2048x1, .i32⟩
  | .hbm, ⟨109, _⟩ => ⟨S4x4096x2048x1, .i1⟩
  | .hbm, ⟨110, _⟩ => ⟨S4x4096x2048x1, .i1⟩
  | .hbm, ⟨111, _⟩ => ⟨S_, .i1⟩
  | .hbm, ⟨112, _⟩ => ⟨S4x4096x2048, .i1⟩
  | .hbm, ⟨113, _⟩ => ⟨S4x4096x2048, .f32⟩
  | .hbm, ⟨114, _⟩ => ⟨S_, .f32⟩
  | .hbm, ⟨115, _⟩ => ⟨S4x4096x2048, .f32⟩
  | .hbm, ⟨116, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_v0 : Ref sig .tc := ⟨.hbm, 22, rfl⟩
abbrev main_call1_v1_0 : Ref sig .tc := ⟨.hbm, 23, rfl⟩
abbrev main_v11 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v12 : Ref sig .tc := ⟨.hbm, 46, rfl⟩
abbrev main_v13 : Ref sig .tc := ⟨.hbm, 47, rfl⟩
abbrev main_call3_call0_c : Ref sig .tc := ⟨.hbm, 48, rfl⟩
abbrev main_call3_call0_v0 : Ref sig .tc := ⟨.hbm, 49, rfl⟩
abbrev main_v14 : Ref sig .tc := ⟨.hbm, 50, rfl⟩
abbrev main_c_1 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_cst_2 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_3 : Ref sig .tc := ⟨.hbm, 66, rfl⟩
abbrev main_v28 : Ref sig .tc := ⟨.hbm, 67, rfl⟩
abbrev main_cst_4 : Ref sig .tc := ⟨.hbm, 68, rfl⟩
abbrev main_v29 : Ref sig .tc := ⟨.hbm, 69, rfl⟩
abbrev main_c_5 : Ref sig .tc := ⟨.hbm, 70, rfl⟩
abbrev main_v30_0 : Ref sig .tc := ⟨.hbm, 71, rfl⟩
abbrev main_v30_1 : Ref sig .tc := ⟨.hbm, 72, rfl⟩
abbrev main_v30_2 : Ref sig .tc := ⟨.hbm, 73, rfl⟩
abbrev main_v30_3 : Ref sig .tc := ⟨.hbm, 74, rfl⟩
abbrev main_v30_4 : Ref sig .tc := ⟨.hbm, 75, rfl⟩
abbrev main_while0c_c_10 : Ref sig .tc := ⟨.hbm, 76, rfl⟩
abbrev main_while0c_v33 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_v0 : Ref sig .tc := ⟨.hbm, 80, rfl⟩
abbrev main_while0b_v33 : Ref sig .tc := ⟨.hbm, 81, rfl⟩
abbrev main_while0b_call5_c : Ref sig .tc := ⟨.hbm, 82, rfl⟩
abbrev main_while0b_call5_c_0 : Ref sig .tc := ⟨.hbm, 83, rfl⟩
abbrev main_while0b_call5_v0 : Ref sig .tc := ⟨.hbm, 84, rfl⟩
abbrev main_while0b_v34 : Ref sig .tc := ⟨.hbm, 85, rfl⟩
abbrev main_while0b_v35 : Ref sig .tc := ⟨.hbm, 86, rfl⟩
abbrev main_while0b_v36 : Ref sig .tc := ⟨.hbm, 87, rfl⟩
abbrev main_while0b_call6_v0 : Ref sig .tc := ⟨.hbm, 88, rfl⟩
abbrev main_while0b_call6_c : Ref sig .tc := ⟨.hbm, 89, rfl⟩
abbrev main_while0b_call6_c_0 : Ref sig .tc := ⟨.hbm, 90, rfl⟩
abbrev main_while0b_v37 : Ref sig .tc := ⟨.hbm, 91, rfl⟩
abbrev main_while0b_c_10 : Ref sig .tc := ⟨.hbm, 92, rfl⟩
abbrev main_while0b_v38 : Ref sig .tc := ⟨.hbm, 93, rfl⟩
abbrev main_v31 : Ref sig .tc := ⟨.hbm, 94, rfl⟩
abbrev main_call7_c : Ref sig .tc := ⟨.hbm, 95, rfl⟩
abbrev main_call7_v0 : Ref sig .tc := ⟨.hbm, 96, rfl⟩
abbrev main_call7_v1 : Ref sig .tc := ⟨.hbm, 97, rfl⟩
abbrev main_call7_c_0 : Ref sig .tc := ⟨.hbm, 98, rfl⟩
abbrev main_call7_v2 : Ref sig .tc := ⟨.hbm, 99, rfl⟩
abbrev main_call7_v3 : Ref sig .tc := ⟨.hbm, 100, rfl⟩
abbrev main_call7_v4 : Ref sig .tc := ⟨.hbm, 101, rfl⟩
abbrev main_call7_v5 : Ref sig .tc := ⟨.hbm, 102, rfl⟩
abbrev main_call7_c_1 : Ref sig .tc := ⟨.hbm, 103, rfl⟩
abbrev main_call7_c_2 : Ref sig .tc := ⟨.hbm, 104, rfl⟩
abbrev main_call7_v6 : Ref sig .tc := ⟨.hbm, 105, rfl⟩
abbrev main_call7_v7 : Ref sig .tc := ⟨.hbm, 106, rfl⟩
abbrev main_call7_v8 : Ref sig .tc := ⟨.hbm, 107, rfl⟩
abbrev main_call7_v9 : Ref sig .tc := ⟨.hbm, 108, rfl⟩
abbrev main_call7_v10 : Ref sig .tc := ⟨.hbm, 109, rfl⟩
abbrev main_call7_v11 : Ref sig .tc := ⟨.hbm, 110, rfl⟩
abbrev main_call7_c_3 : Ref sig .tc := ⟨.hbm, 111, rfl⟩
abbrev main_call7_v12 : Ref sig .tc := ⟨.hbm, 112, rfl⟩
abbrev main_call7_v13 : Ref sig .tc := ⟨.hbm, 113, rfl⟩
abbrev main_call7_cst : Ref sig .tc := ⟨.hbm, 114, rfl⟩
abbrev main_call7_v14 : Ref sig .tc := ⟨.hbm, 115, rfl⟩
abbrev main_v32 : Ref sig .tc := ⟨.hbm, 116, rfl⟩

abbrev nD : Nat := 1
abbrev τ : Topo := Topo.v7x

variable {F : FTy → Type} [FloatOps F]

abbrev main_while0_count : Scf.Loop 32 := ⟨0#32, 4096#32, 1#32⟩
-- ==== Proof.Ema.lean ====
module

public import Idealize.ShloMosaic.PureOps.Ideal
public import Idealize.ShloMosaic.PureOps.Ideal.Laws
public import Mathlib.Data.EReal.Operations
public import Mathlib.Algebra.BigOperators.Intervals
public import Mathlib.Algebra.Order.BigOperators.Ring.Finset

@[expose] public section

noncomputable section

namespace Cert.Ema

open Idealize.ShloMosaic

/-- The recurrence `h ↦ (1 - p) h + p x`, started at `h₀` and run over the first `n` entries of `p` and `x`. -/
def scan (p x : ℕ → EReal) (h₀ : EReal) : ℕ → EReal
  | 0 => h₀
  | n + 1 => (1 - p n) * scan p x h₀ n + p n * x n

/-- Running on from where a run of `a` steps stopped is a run of `a + n` steps. -/
theorem scan_add (p x : ℕ → EReal) (h₀ : EReal) (a n : ℕ) :
    scan p x h₀ (a + n) = scan (fun k => p (a + k)) (fun k => x (a + k)) (scan p x h₀ a) n := by
  induction n with
  | zero => rfl
  | succ n ih => rw [← Nat.add_assoc, scan, scan, ih]

/-- A run of `n` steps reads only the first `n` entries. -/
theorem scan_congr {p p' x x' : ℕ → EReal} (h₀ : EReal) (n : ℕ) (hp : ∀ k < n, p k = p' k) (hx : ∀ k < n, x k = x' k) :
    scan p x h₀ n = scan p' x' h₀ n := by
  induction n with
  | zero => rfl
  | succ n ih =>
    rw [scan, scan, ih (fun k hk => hp k (by omega)) (fun k hk => hx k (by omega)), hp n (by omega), hx n (by omega)]

/-- The weight that entry `s` has in the state after entry `t`. -/
def weight (p : ℕ → ℝ) (t s : ℕ) : ℝ := p s * ∏ u ∈ Finset.Ioc s t, (1 - p u)

/-- The weight that the starting state has in the state after entry `t`. -/
def decay (p : ℕ → ℝ) (t : ℕ) : ℝ := ∏ u ∈ Finset.range (t + 1), (1 - p u)

/-- An entry's weight in the state right after it is its probability. -/
theorem weight_self (p : ℕ → ℝ) (t : ℕ) : weight p t t = p t := by
  simp [weight]

/-- A step later an entry's weight is what the next probability leaves of it. -/
theorem weight_succ (p : ℕ → ℝ) (t s : ℕ) (h : s ≤ t) : weight p (t + 1) s = (1 - p (t + 1)) * weight p t s := by
  rw [weight, weight, Finset.prod_Ioc_succ_top (by omega)]
  ring

/-- A step later the starting state's weight is what the next probability leaves of it. -/
theorem decay_succ (p : ℕ → ℝ) (t : ℕ) : decay p (t + 1) = (1 - p (t + 1)) * decay p t := by
  rw [decay, Finset.prod_range_succ, decay, mul_comm]

/-- A nonnegative real factor goes into a sum of two extended reals, whatever these are. -/
theorem coe_mul_add {r : ℝ} (hr : 0 ≤ r) (a b : EReal) : (r : EReal) * (a + b) = r * a + r * b :=
  EReal.left_distrib_of_nonneg_of_ne_top (EReal.coe_nonneg.2 hr) (EReal.coe_ne_top r) a b

/-- A nonnegative real factor goes into a finite sum of extended reals, whatever these are. -/
theorem coe_mul_sum {ι : Type} {r : ℝ} (hr : 0 ≤ r) (A : Finset ι) (f : ι → EReal) :
    (r : EReal) * ∑ i ∈ A, f i = ∑ i ∈ A, (r : EReal) * f i := by
  classical
  induction A using Finset.induction_on with
  | empty => simp
  | insert i A hi ih => rw [Finset.sum_insert hi, Finset.sum_insert hi, coe_mul_add hr, ih]

/-- **The recurrence in closed form**: after entry `t` the state is the weighted sum of the entries so far plus the
decayed starting state. The entries and the starting state are any extended reals. -/
theorem scan_eq_sum (p : ℕ → ℝ) (hp : ∀ n, 0 < p n ∧ p n < 1) (x : ℕ → EReal) (h₀ : EReal) (t : ℕ) :
    scan (fun n => (p n : EReal)) x h₀ (t + 1)
      = ∑ s ∈ Finset.range (t + 1), (weight p t s : EReal) * x s + (decay p t : EReal) * h₀ := by
  have q (n : ℕ) : (1 : EReal) - (p n : EReal) = ((1 - p n : ℝ) : EReal) := by
    rw [EReal.coe_sub, EReal.coe_one]
  induction t with
  | zero =>
    rw [scan, scan, q, Finset.sum_range_one, weight_self, decay, Finset.prod_range_one, add_comm]
  | succ t ih =>
    have hq : 0 ≤ 1 - p (t + 1) := by linarith [(hp (t + 1)).2]
    rw [scan, ih, q, coe_mul_add hq, coe_mul_sum hq, Finset.sum_range_succ _ (t + 1), weight_self, decay_succ,
      EReal.coe_mul, mul_assoc, add_right_comm]
    congr 2
    refine Finset.sum_congr rfl fun s hs => ?_
    rw [weight_succ p t s (by have := Finset.mem_range.1 hs; omega), EReal.coe_mul, mul_assoc]

/-! ## Logarithms and exponentials -/

/-- The exponential of a sum of logarithms of positive reals is their product. -/
theorem exp_sum_log (f : ℕ → ℝ) (hf : ∀ n, 0 < f n) (N : ℕ) :
    Ideal.exp (∑ u : Fin N, ((Real.log (f u) : ℝ) : EReal)) = ((∏ u ∈ Finset.range N, f u : ℝ) : EReal) := by
  have hs : (∑ u : Fin N, ((Real.log (f u) : ℝ) : EReal)) = ((∑ u ∈ Finset.range N, Real.log (f u) : ℝ) : EReal) := by
    rw [Fin.sum_univ_eq_sum_range (fun u => ((Real.log (f u) : ℝ) : EReal)) N]
    induction N with
    | zero => simp
    | succ n ih => rw [Finset.sum_range_succ, Finset.sum_range_succ, ih, EReal.coe_add]
  rw [hs, Ideal.exp_coe, Real.exp_sum]
  exact congrArg _ (Finset.prod_congr rfl fun u _ => Real.exp_log (hf u))

/-- The logarithm of a positive real. -/
theorem log_pos {r : ℝ} (hr : 0 < r) : Ideal.log (r : EReal) = ((Real.log r : ℝ) : EReal) := by
  rw [Ideal.log_coe, if_neg (not_le.2 hr)]

/-- The logarithm of what a probability below one leaves. -/
theorem log_one_sub {r : ℝ} (hr : r < 1) : Ideal.log (1 - (r : EReal)) = ((Real.log (1 - r) : ℝ) : EReal) := by
  rw [show (1 : EReal) - (r : EReal) = ((1 - r : ℝ) : EReal) by rw [EReal.coe_sub, EReal.coe_one], log_pos (by linarith)]

/-- The lower-triangular matrix of ones, the diagonal included. -/
def tri (t s : ℕ) : EReal := if s ≤ t then 1 else 0

/-- The matrix whose running sums down a column are the logarithms of the weights. -/
def logs (p : ℕ → ℝ) (u s : ℕ) : EReal :=
  if s < u then Ideal.log (1 - (p u : EReal)) else if u = s then Ideal.log (p s : EReal) else 0

/-- A factor of one of `tri` and an entry of one column of logarithms. -/
theorem tri_mul_log {f : ℝ} (hf : 0 < f) (t u : ℕ) :
    tri t u * ((Real.log f : ℝ) : EReal) = ((Real.log (if u ≤ t then f else 1) : ℝ) : EReal) := by
  unfold tri
  split <;> simp

/-- The exponential of a running sum of `log (1 - p)` is the decay. -/
theorem exp_decay (p : ℕ → ℝ) (hp : ∀ n, 0 < p n ∧ p n < 1) (N t : ℕ) (ht : t < N) :
    Ideal.exp (∑ u : Fin N, tri t u * Ideal.log (1 - (p u : EReal))) = (decay p t : EReal) := by
  have hq (u : ℕ) : 0 < 1 - p u := by linarith [(hp u).2]
  rw [Finset.sum_congr rfl fun (u : Fin N) _ => by rw [log_one_sub (hp u).2, tri_mul_log (hq u)],
    exp_sum_log (fun u => if u ≤ t then 1 - p u else 1) (fun u => by split; exacts [hq u, one_pos]) N, decay]
  refine congrArg _ ?_
  rw [← Finset.prod_subset (Finset.range_subset_range.2 (show t + 1 ≤ N by omega))
    (fun u _ hu => if_neg (by simpa using hu))]
  exact Finset.prod_congr rfl fun u hu => if_pos (by have := Finset.mem_range.1 hu; omega)

/-- The exponential of a running sum down a column of `logs` is the weight. -/
theorem exp_weight (p : ℕ → ℝ) (hp : ∀ n, 0 < p n ∧ p n < 1) (N t s : ℕ) (ht : t < N) (hs : s ≤ t) :
    Ideal.exp (∑ u : Fin N, tri t u * logs p u s) = (weight p t s : EReal) := by
  have hq (u : ℕ) : 0 < 1 - p u := by linarith [(hp u).2]
  have hf (u : ℕ) : 0 < (if s < u then 1 - p u else if u = s then p s else 1) := by
    split
    · exact hq u
    · split
      · exact (hp s).1
      · exact one_pos
  have hl (u : ℕ) : logs p u s = ((Real.log (if s < u then 1 - p u else if u = s then p s else 1) : ℝ) : EReal) := by
    unfold logs
    split
    · exact log_one_sub (hp u).2
    · split
      · exact log_pos (hp s).1
      · simp
  rw [Finset.sum_congr rfl fun (u : Fin N) _ => by rw [hl u, tri_mul_log (hf u)],
    exp_sum_log (fun u => if u ≤ t then (if s < u then 1 - p u else if u = s then p s else 1) else 1)
      (fun u => by split; exacts [hf u, one_pos]) N, weight]
  refine congrArg _ ?_
  have hcut (u : ℕ) : (if u ≤ t then (if s < u then 1 - p u else if u = s then p s else 1) else 1)
      = (if u = s then p s else 1) * (if s < u ∧ u ≤ t then 1 - p u else 1) := by
    by_cases h1 : u = s
    · subst h1; simp [hs]
    · by_cases h2 : s < u <;> by_cases h3 : u ≤ t <;> simp [h1, h2, h3]
  rw [Finset.prod_congr rfl fun u _ => hcut u, Finset.prod_mul_distrib, Finset.prod_ite_eq' (Finset.range N) s,
    if_pos (Finset.mem_range.2 (by omega)), ← Finset.prod_filter]
  refine congrArg _ (Finset.prod_congr ?_ fun _ _ => rfl)
  ext u
  simp only [Finset.mem_filter, Finset.mem_range, Finset.mem_Ioc]
  omega

/-- **One block.** The weighted sum over all of a block's entries, the weights masked by `tri`, plus the decayed
starting state, is the recurrence run up to entry `t`. -/
theorem block_eq_scan (p : ℕ → ℝ) (hp : ∀ n, 0 < p n ∧ p n < 1) (x : ℕ → EReal) (h₀ : EReal) (N t : ℕ) (ht : t < N) :
    (∑ s : Fin N, Ideal.exp (∑ u : Fin N, tri t u * logs p u s) * tri t s * x s)
        + Ideal.exp (∑ u : Fin N, tri t u * Ideal.log (1 - (p u : EReal))) * h₀
      = scan (fun n => (p n : EReal)) x h₀ (t + 1) := by
  rw [scan_eq_sum p hp, exp_decay p hp N t ht]
  refine congrArg (· + _) ?_
  rw [Fin.sum_univ_eq_sum_range (fun s => Ideal.exp (∑ u : Fin N, tri t u * logs p u s) * tri t s * x s) N,
    ← Finset.sum_subset (Finset.range_subset_range.2 (show t + 1 ≤ N by omega))]
  · refine Finset.sum_congr rfl fun s hs => ?_
    have hst : s ≤ t := by have := Finset.mem_range.1 hs; omega
    rw [exp_weight p hp N t s ht hst, tri, if_pos hst, mul_one]
  · intro s _ hs
    rw [tri, if_neg (by simpa using hs), mul_zero, zero_mul]

/-! ## The clipped probability -/

/-- The clip to the two constants, which are close to `1e-4` and to `1 - 1e-4`. -/
def clip (x : EReal) : EReal := min (Ideal.ofBits .f32 0x3F7FF972#32) (max (Ideal.ofBits .f32 0x38D1B717#32) x)

/-- The clip's lower bound as a real. -/
theorem lower_eq : Ideal.ofBits .f32 0x38D1B717#32 = ((13743895 / 137438953472 : ℝ) : EReal) := by
  simp [Ideal.ofBits, Ideal.ieee, -EReal.coe_mul]; norm_num

/-- The clip's upper bound as a real. -/
theorem upper_eq : Ideal.ofBits .f32 0x3F7FF972#32 = ((8387769 / 8388608 : ℝ) : EReal) := by
  simp [Ideal.ofBits, Ideal.ieee, -EReal.coe_mul]; norm_num

/-- The clipped probability as a real. -/
def clipR (x : EReal) : ℝ := (clip x).toReal

/-- Whatever extended real is clipped, the result is a real strictly between zero and one. -/
theorem clip_real (x : EReal) : ∃ r : ℝ, clip x = (r : EReal) ∧ 0 < r ∧ r < 1 := by
  unfold clip
  rw [lower_eq, upper_eq]
  induction x with
  | bot => exact ⟨13743895 / 137438953472, by rw [max_eq_left bot_le, min_eq_right (EReal.coe_le_coe_iff.2 (by norm_num))], by norm_num, by norm_num⟩
  | top => exact ⟨8387769 / 8388608, by rw [max_eq_right le_top, min_eq_left le_top], by norm_num, by norm_num⟩
  | coe r =>
    refine ⟨min (8387769 / 8388608) (max (13743895 / 137438953472) r), ?_, ?_, ?_⟩
    · rw [EReal.coe_strictMono.monotone.map_min, EReal.coe_strictMono.monotone.map_max]
    · exact lt_min (by norm_num) (lt_max_of_lt_left (by norm_num))
    · exact (min_le_left _ _).trans_lt (by norm_num)

/-- A clipped extended real is the real `clipR` gives. -/
theorem clip_eq (x : EReal) : clip x = (clipR x : EReal) := by
  obtain ⟨r, hr, -⟩ := clip_real x
  rw [clipR, hr, EReal.toReal_coe]

/-- That real lies strictly between zero and one. -/
theorem clipR_mem (x : EReal) : 0 < clipR x ∧ clipR x < 1 := by
  obtain ⟨r, hr, h⟩ := clip_real x
  rw [clipR, hr, EReal.toReal_coe]
  exact h

end Cert.Ema
end
-- ==== Proof.KerBlock.lean ====
module

public import proofs.«01_k».proof.Proof.Gen.KernelIdeal.Value
public import proofs.«01_k».proof.Proof.Ema
public import Idealize.ShloMosaic.Lib.Pipeline.ValueKit
public import Idealize.ShloMosaic.Lib.Pointwise
public import Idealize.ShloMosaic.Lib.WordCmp

@[expose] public section

set_option maxRecDepth 16384

noncomputable section

/-! What one grid point of the kernel computes from its blocks, read at an index. -/

namespace Cert.KernelIdeal.Ema

open Cert.KernelIdeal Cert.KernelIdeal.Gen Cert.Ema Idealize.ShloMosaic Idealize.ShloMosaic.TcCoe Idealize.SL.Sem Idealize.ShloMosaic.WordCmp

/-- A comparison bit, widened and converted to a float, is one or zero. -/
theorem sitofp_bit (b : Prop) [Decidable b] :
    (FloatOps.sitofp FTy.f32 (BitVec.setWidth 32 (BitVec.ofBool (decide b))) : Ideal .f32) = if b then (1 : EReal) else 0 := by
  show ((((BitVec.setWidth 32 (BitVec.ofBool (decide b))).toInt : ℤ) : ℝ) : EReal) = _
  by_cases h : b <;> simp [h]

/-- The kernel's mask is the lower-triangular matrix of ones. -/
theorem mask_apply (t s : Fin 512) : (k0_pay5 (F := Ideal)) (ix2 t s) = tri t.val s.val := by
  pointwise [k0_pay5]
  rw [cmpi_sle_ofNat (by omega) (by omega), sitofp_bit]
  rfl

/-- A column of the running sums of logarithms. -/
theorem sums_apply (v : Vec Ideal S1x512x1 .f32) (p : ℕ → ℝ) (hp : ∀ s : Fin 512, clip (v (ix3 0 s 0)) = (p s.val : EReal))
    (t s : Fin 512) :
    k0_pay6 v v (ix2 t (⟨s.val, by omega⟩ : Fin 513)) = ∑ u : Fin 512, tri t.val u.val * logs p u.val s.val := by
  pointwise [k0_pay6]
  refine Finset.sum_congr rfl fun u _ => ?_
  rw [mask_apply, cmpi_sgt_ofNat (by omega) (by omega), cmpi_eq_ofNat (by omega) (by omega)]
  have hu := hp u
  have hs := hp s
  unfold clip at hu hs
  rw [hu, hs]
  refine congrArg _ ?_
  unfold logs
  by_cases h1 : s.val < u.val <;> by_cases h2 : u.val = s.val <;> simp [h1, h2, Scalar.select]

/-- The last column: the running sums of `log (1 - p)`. -/
theorem last_sums_apply (v : Vec Ideal S1x512x1 .f32) (p : ℕ → ℝ) (hp : ∀ s : Fin 512, clip (v (ix3 0 s 0)) = (p s.val : EReal))
    (t : Fin 512) :
    k0_pay6 v v (ix2 t (512 : Fin 513)) = ∑ u : Fin 512, tri t.val u.val * Ideal.log (1 - (p u.val : EReal)) := by
  pointwise [k0_pay6]
  refine Finset.sum_congr rfl fun u _ => ?_
  have hu := hp u
  unfold clip at hu
  rw [mask_apply, hu]

/-- **One block.** Row `t` of what the kernel computes at one grid point is the recurrence over the block's first `t + 1`
entries, started at row 0 of the scratch: `v` is the block's column of probabilities, `x` its block of entries. -/
theorem block_apply (v : Vec Ideal S1x512x1 .f32) (x : Vec Ideal S1x512x2048 .f32) (h : Vec Ideal S8x2048 .f32)
    (bp xs : ℕ → EReal) (d : Fin 2048) (hv : ∀ s : Fin 512, v (ix3 0 s 0) = bp s.val)
    (hx : ∀ s : Fin 512, x (ix3 0 s d) = xs s.val) (t : Fin 512) :
    k0_pay1 (k0_pay7 v v) (k0_pay8 v v) x h (ix2 t d)
      = scan (fun n => clip (bp n)) xs (h (ix2 0 d)) (t.val + 1) := by
  have hp : ∀ s : Fin 512, clip (v (ix3 0 s 0)) = ((fun n => clipR (bp n)) s.val : EReal) := fun s => by
    rw [hv s, clip_eq]
  have hc : (fun n => clip (bp n)) = fun n => ((clipR (bp n) : ℝ) : EReal) := funext fun n => clip_eq _
  rw [hc, ← block_eq_scan (fun n => clipR (bp n)) (fun n => clipR_mem _) xs (h (ix2 0 d)) 512 t.val t.isLt]
  pointwise [k0_pay1, k0_pay7, k0_pay8]
  rw [last_sums_apply v (fun n => clipR (bp n)) hp]
  simp only [zero_mul, Finset.sum_const_zero, add_zero, Finset.univ_unique, Finset.sum_singleton]
  refine congrArg (· + _) (Finset.sum_congr rfl fun s _ => ?_)
  rw [sums_apply v (fun n => clipR (bp n)) hp t s, mask_apply, hx]

end Cert.KernelIdeal.Ema
end
-- ==== Proof.KerFold.lean ====
module

public import proofs.«01_k».proof.Proof.KerBlock
public import Idealize.ShloMosaic.Lib.Pipeline.ReadBack
public import Idealize.ShloMosaic.Lib.WritesUnit

@[expose] public section

set_option maxRecDepth 16384

noncomputable section

/-! What a grid point leaves in its output block and in row 0 of the scratch, as the recurrence over its input blocks. -/

namespace Cert.KernelIdeal.Ema

open Cert.KernelIdeal Cert.KernelIdeal.Gen Cert.Ema Idealize.ShloMosaic Idealize.ShloMosaic.TcCoe Idealize.SL.Sem

variable (m : (ℓ : Loc nD τ sig) → Buf (Elt Ideal) ℓ)

/-- The column of probabilities that grid point `t` loads. -/
def probs (c : Dev nD) (t : Fin cfg0.N) : Vec Ideal S1x512x1 .f32 :=
  View.ld (iblk m c 1 t) (Rect.unit ![0, 0, 1] ![1, 512, 1] inb_S1x512x2_S1x512x1_0_0_1)

/-- What grid point `t` computes over the scratch contents `h`. -/
def rows (c : Dev nD) (t : Fin cfg0.N) (h : Vec Ideal S8x2048 .f32) : FVec Ideal S512x2048 .f32 :=
  k0_pay1 (k0_pay7 (probs m c t) (probs m c t)) (k0_pay8 (probs m c t) (probs m c t)) (iblk m c 0 t) h

/-- The first point of a batch writes what it computes over a scratch of zeros. -/
theorem first_out (c : Dev nD) (t : Fin cfg0.N) (h0 : t.val % 8 = 0) (r : Fin 512) (d : Fin 2048) :
    (outsAt0 m c t.val t.isLt).1 (ix3 0 r d) = rows m c t (k0_pay4 (F := Ideal)) (ix2 r d) := by
  rw [outsAt0_A m c t h0]
  dsimp only
  frame_out
  pointwise [k0_pay2]
  rfl

/-- The first point of a batch leaves the last row of what it computes in row 0 of the scratch. -/
theorem first_scratch (c : Dev nD) (t : Fin cfg0.N) (h0 : t.val % 8 = 0) (d : Fin 2048) :
    (outsAt0 m c t.val t.isLt).2 (ix2 0 d) = rows m c t (k0_pay4 (F := Ideal)) (ix2 511 d) := by
  rw [outsAt0_A m c t h0]
  dsimp only
  frame_out
  have he : (Rect.unit (s := S8x2048) ![0, 0] ![1, 2048] inb_S8x2048_S1x2048_0_0).emb (ix2 0 d) = (ix2 0 d : S8x2048.Idx) :=
    Rect.emb_eq_of_coords _ _ _ (fun a => by match a with | ⟨0, _⟩ => rfl | ⟨1, _⟩ => show d.val = 0 + 1 * d.val; omega)
  rw [← he, View.canon_cons_emb]
  pointwise [k0_pay3]
  rfl

/-- A later point of a batch writes what it computes over the scratch that the point before it left. -/
theorem next_out (c : Dev nD) (t : Fin cfg0.N) (h0 : ¬ t.val % 8 = 0) (r : Fin 512) (d : Fin 2048) :
    (outsAt0 m c t.val t.isLt).1 (ix3 0 r d)
      = rows m c t (outsAt0 m c (t.val - 1) (by omega)).2 (ix2 r d) := by
  rw [outsAt0_B m c t h0]
  dsimp only
  frame_out
  simp only [read_unread_whole]
  pointwise [k0_pay2]
  rfl

/-- A later point of a batch leaves the last row of what it computes in row 0 of the scratch. -/
theorem next_scratch (c : Dev nD) (t : Fin cfg0.N) (h0 : ¬ t.val % 8 = 0) (d : Fin 2048) :
    (outsAt0 m c t.val t.isLt).2 (ix2 0 d)
      = rows m c t (outsAt0 m c (t.val - 1) (by omega)).2 (ix2 511 d) := by
  rw [outsAt0_B m c t h0]
  dsimp only
  frame_out
  refine (View.read_writes_cons_hit_of_coords (View.whole cc0_scratch0) _
    (Rect.unit (s := S8x2048) ![0, 0] ![1, 2048] inb_S8x2048_S1x2048_0_0) _ [] (ix2 0 d) (ix2 0 d) (fun a => ?_)).trans ?_
  · match a with
    | ⟨0, _⟩ => rfl
    | ⟨1, _⟩ => show d.val = 0 + 1 * d.val; omega
  · rw [read_unread_whole]
    pointwise [k0_pay3]
    rfl

/-- The block that each window takes at a grid point. -/
theorem block_index : ∀ t : Fin cfg0.N, (cfg0.win 0).index t = ![t.val / 8, t.val % 8, 0] ∧ (cfg0.win 1).index t = ![t.val / 8, t.val % 8, 0] := by
  decide +kernel

/-- A grid point's probability column, read at a step of its chunk. -/
theorem probs_apply (c : Dev nD) (t : Fin cfg0.N) (s : Fin 512) (h1 h2) :
    probs m c t (ix3 0 s 0) = (m ((c.tc : Thread nD τ).loc main_arg2) : FVec Ideal S4x4096x2 .f32) (ix3 ⟨t.val / 8, h1⟩ ⟨512 * (t.val % 8) + s.val, h2⟩ 1) := by
  unfold probs
  pointwise
  blk_point [iblk, V, block_index t]

/-- A grid point's block of inputs, read at a step of its chunk and a channel. -/
theorem entries_apply (c : Dev nD) (t : Fin cfg0.N) (s : Fin 512) (d : Fin 2048) (h1 h2) :
    (iblk m c 0 t : FVec Ideal S1x512x2048 .f32) (ix3 0 s d)
      = (m ((c.tc : Thread nD τ).loc main_arg0) : FVec Ideal S4x4096x2048 .f32) (ix3 ⟨t.val / 8, h1⟩ ⟨512 * (t.val % 8) + s.val, h2⟩ d) := by
  blk_ext [iblk, V, block_index t]

/-- The probabilities of batch `b`, by time step. -/
def prob (c : Dev nD) (b : Fin 4) (n : ℕ) : EReal :=
  if h : n < 4096 then clip ((m ((c.tc : Thread nD τ).loc main_arg2) : FVec Ideal S4x4096x2 .f32) (ix3 b ⟨n, h⟩ 1)) else 0

/-- The entries of batch `b` on channel `d`, by time step. -/
def entry (c : Dev nD) (b : Fin 4) (d : Fin 2048) (n : ℕ) : EReal :=
  if h : n < 4096 then (m ((c.tc : Thread nD τ).loc main_arg0) : FVec Ideal S4x4096x2048 .f32) (ix3 b ⟨n, h⟩ d) else 0

/-- A grid point's rows continue the recurrence: over a scratch row that holds its value at the point's first step, row `r` is its value after
    `r + 1` more steps. -/
theorem rows_apply (c : Dev nD) (t : Fin cfg0.N) (b : Fin 4) (i : Fin 8) (ht : t.val = 8 * b.val + i.val) (h : Vec Ideal S8x2048 .f32) (d : Fin 2048)
    (hh : h (ix2 0 d) = scan (prob m c b) (entry m c b d) 0 (512 * i.val)) (r : Fin 512) :
    rows m c t h (ix2 r d) = scan (prob m c b) (entry m c b d) 0 (512 * i.val + (r.val + 1)) := by
  have hb : t.val / 8 = b.val := by omega
  have hi : t.val % 8 = i.val := by omega
  have hp : ∀ s : Fin 512, probs m c t (ix3 0 s 0) = (m ((c.tc : Thread nD τ).loc main_arg2) : FVec Ideal S4x4096x2 .f32) (ix3 b ⟨512 * i.val + s.val, by omega⟩ 1) := fun s => by
    rw [probs_apply m c t s (by omega) (by omega)]
    refine congrArg _ ?_
    congr 1 <;> exact Fin.ext (by simp only [hb, hi])
  have hx : ∀ s : Fin 512, (iblk m c 0 t : FVec Ideal S1x512x2048 .f32) (ix3 0 s d) = entry m c b d (512 * i.val + s.val) := fun s => by
    rw [entries_apply m c t s d (by omega) (by omega), entry, dif_pos (by omega)]
    refine congrArg _ ?_
    congr 1 <;> exact Fin.ext (by simp only [hb, hi])
  rw [scan_add, ← hh]
  refine (block_apply (probs m c t) (iblk m c 0 t) h
    (fun n => if h : n < 512 then probs m c t (ix3 0 ⟨n, h⟩ 0) else 0) (fun n => entry m c b d (512 * i.val + n)) d
    (fun s => by rw [dif_pos s.isLt]) hx r).trans ?_
  refine scan_congr _ _ (fun n hn => ?_) (fun _ _ => rfl)
  have hn' : n < 512 := by omega
  rw [dif_pos hn', hp ⟨n, hn'⟩, prob, dif_pos (show 512 * i.val + n < 4096 by omega)]

/-- What every grid point leaves: its output block is the recurrence over its rows, and row 0 of the scratch is the recurrence at its last row. -/
theorem point (c : Dev nD) (b : Fin 4) : ∀ (k : ℕ) (hk : k < 8) (hN : 8 * b.val + k < cfg0.N) (d : Fin 2048),
    (∀ r : Fin 512, (outsAt0 m c (8 * b.val + k) hN).1 (ix3 0 r d) = scan (prob m c b) (entry m c b d) 0 (512 * k + (r.val + 1)))
      ∧ (outsAt0 m c (8 * b.val + k) hN).2 (ix2 0 d) = scan (prob m c b) (entry m c b d) 0 (512 * (k + 1))
  | 0, hk, hN, d => by
    have h0 : (⟨8 * b.val + 0, hN⟩ : Fin cfg0.N).val % 8 = 0 := by show (8 * b.val + 0) % 8 = 0; omega
    have hz : (k0_pay4 (F := Ideal)) (ix2 0 d) = scan (prob m c b) (entry m c b d) 0 (512 * (⟨0, hk⟩ : Fin 8).val) := by
      pointwise [k0_pay4]
      rfl
    exact ⟨fun r => (first_out m c ⟨_, hN⟩ h0 r d).trans (rows_apply m c ⟨_, hN⟩ b ⟨0, hk⟩ rfl _ d hz r),
      (first_scratch m c ⟨_, hN⟩ h0 d).trans (rows_apply m c ⟨_, hN⟩ b ⟨0, hk⟩ rfl _ d hz 511)⟩
  | k + 1, hk, hN, d => by
    have h0 : ¬ (⟨8 * b.val + (k + 1), hN⟩ : Fin cfg0.N).val % 8 = 0 := by show ¬ (8 * b.val + (k + 1)) % 8 = 0; omega
    have hz := (point c b k (by omega) (by omega) d).2
    exact ⟨fun r => (next_out m c ⟨_, hN⟩ h0 r d).trans (rows_apply m c ⟨_, hN⟩ b ⟨k + 1, hk⟩ rfl _ d hz r),
      (next_scratch m c ⟨_, hN⟩ h0 d).trans (rows_apply m c ⟨_, hN⟩ b ⟨k + 1, hk⟩ rfl _ d hz 511)⟩

/-- The kernel's result: at time step `t` of batch `b`, channel `d`, the recurrence after `t + 1` steps. -/
theorem result_apply (c : Dev nD) (b : Fin 4) (t : Fin 4096) (d : Fin 2048) :
    (Value.G2 m c : FVec Ideal S4x4096x2048 .f32) (ix3 b t d) = scan (prob m c b) (entry m c b d) 0 (t.val + 1) := by
  have hp : Value.pt2Of (ix3 b t d) = 8 * b.val + t.val / 512 := by
    show 8 * (b.val / 1 - 0) + 1 * (t.val / 512 - 0) + 1 * (d.val / 2048 - 0) = _
    omega
  have hl : Value.loc2Of (ix3 b t d) = ix3 0 ⟨t.val % 512, by omega⟩ d := funext fun a => Fin.ext (by
    match a with
    | ⟨0, _⟩ => show b.val % 1 = 0; omega
    | ⟨1, _⟩ => rfl
    | ⟨2, _⟩ => show d.val % 2048 = d.val; omega)
  have hN : 8 * b.val + t.val / 512 < cfg0.N := by rw [show cfg0.N = 32 from N_0]; omega
  have he : ∀ n (hn : n < cfg0.N), n = 8 * b.val + t.val / 512 → outsAt0 m c n hn = outsAt0 m c (8 * b.val + t.val / 512) hN := by
    rintro _ _ rfl
    rfl
  unfold Value.G2
  rw [dif_pos (by rw [hp]; exact hN), ← Value.outsAt0_sweep m c _ (by rw [hp]; exact hN), he _ _ hp, hl,
    (point m c b (t.val / 512) (by omega) hN d).1 ⟨t.val % 512, by omega⟩]
  congr 1
  show 512 * (t.val / 512) + (t.val % 512 + 1) = t.val + 1
  omega

end Cert.KernelIdeal.Ema
end
-- ==== Proof.RefOps.lean ====
module

public import proofs.«01_k».proof.Proof.Gen.ReferenceIdeal.Run
public import Idealize.ShloMosaic.Lib.Pointwise
public import Idealize.ShloMosaic.Lib.WordCmp
public import Idealize.ShloMosaic.Lib.SortFacts
public import Idealize.ShloMosaic.Lib.Routing.Ops

@[expose] public section

set_option maxRecDepth 16384

noncomputable section

/-! The reference's reordering operations, where the mask is true everywhere: the sort, the two gathers, the test of the gathered indices and the
running sum. -/

namespace Cert.ReferenceIdeal.Ema

open Cert.ReferenceIdeal Cert.ReferenceIdeal.Gen Idealize.ShloMosaic Idealize.ShloMosaic.TcCoe Idealize.SL.Sem Idealize.ShloMosaic.WordCmp

/-- A stable sort of positions by their own order moves none. -/
theorem sortedFrom_own {n : ℕ} (k : Fin n) : sortedFrom (fun a b : Fin n => decide (a < b)) k = k := by
  have h : sortPositions n (fun a b : Fin n => decide (a < b)) = List.ofFn id := sortPositions_of_perm (Equiv.refl (Fin n))
  unfold sortedFrom
  rw [List.get_of_eq h]
  simp

/-- Sorting rows whose keys count upwards leaves what is carried along as it was. -/
theorem sort_counting (x y : IVec S4x4096 32) (hx : ∀ (b : Fin 4) (t : Fin 4096), x (ix2 b t) = BitVec.ofNat 32 t.val) :
    (Host.sort2 S4x4096 1 comparator_i32_i32_d1 x y).2 = y := by
  funext j
  obtain ⟨b, t, rfl⟩ : ∃ (b : Fin 4) (t : Fin 4096), j = ix2 b t := ⟨_, _, eq_ix2 j⟩
  unfold Host.sort2
  rw [dif_pos (show 1 < S4x4096.rank by decide)]
  show y _ = y _
  have hk : ∀ k : Fin 4096, (ix2 b t : S4x4096.Idx).along 1 k = ix2 b k := fun k => funext fun a => by
    match a with
    | ⟨0, _⟩ => rfl
    | ⟨1, _⟩ => rfl
  have hs : sortedFrom (fun k k' : Fin 4096 => comparator_i32_i32_d1 (x ((ix2 b t : S4x4096.Idx).along 1 k), y ((ix2 b t : S4x4096.Idx).along 1 k))
      (x ((ix2 b t : S4x4096.Idx).along 1 k'), y ((ix2 b t : S4x4096.Idx).along 1 k')) == 1#1) = sortedFrom (fun k k' : Fin 4096 => decide (k < k')) :=
    sortedFrom_congr _ _ fun k k' _ => by
      rw [hk, hk, hx, hx]
      show (IntOp.cmpi .slt (BitVec.ofNat 32 k.val) (BitVec.ofNat 32 k'.val) == 1#1) = decide (k < k')
      rw [cmpi_slt_ofNat (by omega) (by omega)]
      by_cases h : k.val < k'.val
      · rw [decide_eq_true h, decide_eq_true (show k < k' from h)]; rfl
      · rw [decide_eq_false h, decide_eq_false (show ¬ k < k' from h)]; rfl
  refine congrArg y ((congrArg (Shape.Idx.along (ix2 b t) 1) ((congrFun hs t).trans (sortedFrom_own t))).trans (hk t))

/-- The conjunction of bits that are all set is set. -/
theorem reduce_ones {s t u : Shape} {axes : List (Fin s.rank)} (x : IVec s 1) (init : IVec u 1) (h : s.ReducesTo axes t) (hu : 0 < u.numel)
    (hx : ∀ i, x i = 1#1) (hi : ∀ i, init i = 1#1) (j : t.Idx) : Host.reduce IntOp.andi x init h hu j = 1#1 := by
  unfold Host.reduce
  rw [hi]
  generalize List.filter _ _ = l
  induction l with
  | nil => rfl
  | cons n l ih =>
    rw [List.foldl_cons, hx]
    exact ih

open Idealize.ShloMosaic.Routing in
/-- The running sum of ones along the time axis counts the steps. -/
theorem running_ones (x : IVec S4x4096 32) (hx : ∀ i, x i = 1#32) (init : IVec S_ 32) (hi : ∀ i, init i = 0#32) (b : Fin 4) (t : Fin 4096) :
    Host.reduceWindow IntOp.addi ![1, 4096] ![1, 1] ![0, 4095] ![0, 0] x init reduceWindows_S4x4096_S4x4096_w1s1p0_0_w4096s1p4095_0 h_S_ (ix2 b t)
      = BitVec.ofNat 32 (t.val + 1) := by
  have e := cumsum2 (N := 4096) (Nm1 := 4095) rfl (fun _ => 1#32) (fun _ => 1) (fun _ => rfl) init (hi _) (by decide) h_S_ t
  refine Eq.trans ?_ (e.trans (congrArg (BitVec.ofNat 32) (by simp)))
  unfold Host.reduceWindow
  refine List.foldl_ext _ _ _ fun r n _ => congrArg (IntOp.addi r) ?_
  have hw : ((⟨2, ![1, 4096]⟩ : Shape).rowMajor.symm n 0).val = 0 := by
    have := ((⟨2, ![1, 4096]⟩ : Shape).rowMajor.symm n 0).isLt
    have h1 : (⟨2, ![1, 4096]⟩ : Shape).size 0 = 1 := rfl
    omega
  dsimp only
  by_cases h : 4095 ≤ t.val * 1 + ((⟨2, ![1, 4096]⟩ : Shape).rowMajor.symm n 1).val
      ∧ t.val * 1 + ((⟨2, ![1, 4096]⟩ : Shape).rowMajor.symm n 1).val - 4095 < 4096
  · rw [dif_pos (fun a => by
      match a with
      | ⟨0, _⟩ => exact ⟨Nat.zero_le _, by show b.val * 1 + ((⟨2, ![1, 4096]⟩ : Shape).rowMajor.symm n 0).val - 0 < 4; rw [hw]; omega⟩
      | ⟨1, _⟩ => exact h), dif_pos (fun a => by
      match a with
      | ⟨0, _⟩ => exact ⟨Nat.zero_le _, by show 0 * 1 + ((⟨2, ![1, 4096]⟩ : Shape).rowMajor.symm n 0).val - 0 < 1; rw [hw]; omega⟩
      | ⟨1, _⟩ => exact h)]
    exact hx _
  · rw [dif_neg fun hin => h (hin 1), dif_neg fun hin => h (hin 1)]

/-- Gathering along the time axis at each row's own position reads the row. -/
theorem gather_own (x : FVec Ideal S4x4096 .f32) (idx : IVec S4x4096x1 32) (b : Fin 4) (t : Fin 4096) (hi : idx (ix3 b t 0) = BitVec.ofNat 32 t.val) :
    Host.gather gather_S4x4096_S4x4096x1_S4x4096_n_1_0_0_1_2_11 x idx (ix2 b t) = x (ix2 b t) := by
  unfold Host.gather
  refine congrArg x (funext fun a => Fin.ext ?_)
  match a with
  | ⟨0, _⟩ =>
    show GatherDims.start gather_S4x4096_S4x4096x1_S4x4096_n_1_0_0_1_2_11 (ix2 b t) idx 0 + GatherDims.batchCoord gather_S4x4096_S4x4096x1_S4x4096_n_1_0_0_1_2_11 (ix2 b t) 0 + GatherDims.offCoord gather_S4x4096_S4x4096x1_S4x4096_n_1_0_0_1_2_11 (ix2 b t) 0 = b.val
    rw [GatherDims.start_batching _ _ _ _ (by decide), GatherDims.offCoord_eq_zero _ _ _ (by decide)]
    simp only [Nat.zero_add, Nat.add_zero]
    rfl
  | ⟨1, _⟩ =>
    show GatherDims.start gather_S4x4096_S4x4096x1_S4x4096_n_1_0_0_1_2_11 (ix2 b t) idx 1 + GatherDims.batchCoord gather_S4x4096_S4x4096x1_S4x4096_n_1_0_0_1_2_11 (ix2 b t) 1 + GatherDims.offCoord gather_S4x4096_S4x4096x1_S4x4096_n_1_0_0_1_2_11 (ix2 b t) 1 = t.val
    rw [GatherDims.batchCoord_eq_zero _ _ _ (by decide), GatherDims.offCoord_eq_zero _ _ _ (by decide)]
    simp only [Nat.add_zero]
    have hs : GatherDims.siIdx gather_S4x4096_S4x4096x1_S4x4096_n_1_0_0_1_2_11 (ix2 b t) ⟨0, by decide⟩ = ix3 b t 0 := funext fun k => by
      match k with
      | ⟨0, _⟩ => rfl
      | ⟨1, _⟩ => rfl
      | ⟨2, _⟩ => rfl
    unfold GatherDims.start
    rw [dif_pos (by decide)]
    refine (congrArg (fun i => min (idx i).toInt.toNat (4096 - 1)) hs).trans ?_
    rw [hi, toInt_ofNat_of_lt (by omega)]
    omega

/-- The same gather of a three-axis array: at each entry's own time step it reads the entry. -/
theorem gather_own3 (x : FVec Ideal S4x4096x2048 .f32) (idx : IVec S4x4096x2048x1 32) (b : Fin 4) (t : Fin 4096) (d : Fin 2048)
    (hi : idx (ix4 b t d 0) = BitVec.ofNat 32 t.val) :
    Host.gather gather_S4x4096x2048_S4x4096x2048x1_S4x4096x2048_n_1_02_02_1_3_111 x idx (ix3 b t d) = x (ix3 b t d) := by
  unfold Host.gather
  refine congrArg x (funext fun a => Fin.ext ?_)
  match a with
  | ⟨0, _⟩ =>
    show GatherDims.start gather_S4x4096x2048_S4x4096x2048x1_S4x4096x2048_n_1_02_02_1_3_111 (ix3 b t d) idx 0 + GatherDims.batchCoord gather_S4x4096x2048_S4x4096x2048x1_S4x4096x2048_n_1_02_02_1_3_111 (ix3 b t d) 0 + GatherDims.offCoord gather_S4x4096x2048_S4x4096x2048x1_S4x4096x2048_n_1_02_02_1_3_111 (ix3 b t d) 0 = b.val
    rw [GatherDims.start_batching _ _ _ _ (by decide), GatherDims.offCoord_eq_zero _ _ _ (by decide)]
    simp only [Nat.zero_add, Nat.add_zero]
    rfl
  | ⟨1, _⟩ =>
    show GatherDims.start gather_S4x4096x2048_S4x4096x2048x1_S4x4096x2048_n_1_02_02_1_3_111 (ix3 b t d) idx 1 + GatherDims.batchCoord gather_S4x4096x2048_S4x4096x2048x1_S4x4096x2048_n_1_02_02_1_3_111 (ix3 b t d) 1 + GatherDims.offCoord gather_S4x4096x2048_S4x4096x2048x1_S4x4096x2048_n_1_02_02_1_3_111 (ix3 b t d) 1 = t.val
    rw [GatherDims.batchCoord_eq_zero _ _ _ (by decide), GatherDims.offCoord_eq_zero _ _ _ (by decide)]
    simp only [Nat.add_zero]
    have hs : GatherDims.siIdx gather_S4x4096x2048_S4x4096x2048x1_S4x4096x2048_n_1_02_02_1_3_111 (ix3 b t d) ⟨0, by decide⟩ = ix4 b t d 0 :=
      funext fun k => by
        match k with
        | ⟨0, _⟩ => rfl
        | ⟨1, _⟩ => rfl
        | ⟨2, _⟩ => rfl
        | ⟨3, _⟩ => rfl
    unfold GatherDims.start
    rw [dif_pos (by decide)]
    refine (congrArg (fun i => min (idx i).toInt.toNat (4096 - 1)) hs).trans ?_
    rw [hi, toInt_ofNat_of_lt (by omega)]
    omega
  | ⟨2, _⟩ =>
    show GatherDims.start gather_S4x4096x2048_S4x4096x2048x1_S4x4096x2048_n_1_02_02_1_3_111 (ix3 b t d) idx 2 + GatherDims.batchCoord gather_S4x4096x2048_S4x4096x2048x1_S4x4096x2048_n_1_02_02_1_3_111 (ix3 b t d) 2 + GatherDims.offCoord gather_S4x4096x2048_S4x4096x2048x1_S4x4096x2048_n_1_02_02_1_3_111 (ix3 b t d) 2 = d.val
    rw [GatherDims.start_batching _ _ _ _ (by decide), GatherDims.offCoord_eq_zero _ _ _ (by decide)]
    simp only [Nat.zero_add, Nat.add_zero]
    rfl

end Cert.ReferenceIdeal.Ema
end
-- ==== Proof.RefLoop.lean ====
module

public import proofs.«01_k».proof.Proof.Gen.ReferenceIdeal.Run
public import proofs.«01_k».proof.Proof.Ema
public import Idealize.ShloMosaic.Lib.Pointwise
public import Idealize.ShloMosaic.Lib.WordCmp
public import Idealize.ShloMosaic.Lib.Tactic.CleanTypes

@[expose] public section

set_option maxRecDepth 16384

noncomputable section

/-! The reference's loop over time: what its carried buffers hold after `k` trips. -/

namespace Cert.ReferenceIdeal.Ema

open Cert.ReferenceIdeal Cert.ReferenceIdeal.Value Cert.Ema Idealize.ShloMosaic Idealize.ShloMosaic.TcCoe Idealize.SL.Sem
open Idealize.ShloMosaic.StableHlo

open Idealize.ShloMosaic.WordCmp (toInt_ofNat_of_lt)

/-- Two positions of a three-axis array are equal when their coordinates are. -/
theorem place_ext {s0 s1 s2 : ℕ} {a a' : Fin s0} {b b' : Fin s1} {d d' : Fin s2} (ha : a.val = a'.val) (hb : b.val = b'.val)
    (hd : d.val = d'.val) : ix3 a b d = ix3 a' b' d' := by
  rw [Fin.ext ha, Fin.ext hb, Fin.ext hd]

/-- A slice of one time step, read at a batch and a channel. -/
theorem slice_step (X : FVec Ideal S4096x4x2048 .f32) (st : Fin 3 → ℤ) (h) (k : Fin 4096) (b : Fin 4) (d : Fin 2048)
    (h0 : st 0 = (k.val : ℤ)) (h1 : st 1 = (0 : ℕ)) (h2 : st 2 = (0 : ℕ)) :
    Host.dynamicSlice S1x4x2048 X st h (ix3 0 b d) = X (ix3 k b d) := by
  have e0 := Host.clampedStart_of_le h.1 st 0 k.val h0 (by show k.val + 1 ≤ 4096; omega)
  have e1 := Host.clampedStart_of_le h.1 st 1 0 h1 (by show 0 + 4 ≤ 4; omega)
  have e2 := Host.clampedStart_of_le h.1 st 2 0 h2 (by show 0 + 2048 ≤ 2048; omega)
  pointwise
  exact congrArg X (place_ext e0 (by show _ + b.val = b.val; rw [e1, Nat.zero_add]) (by show _ + d.val = d.val; rw [e2, Nat.zero_add]))

/-- An array whose time step `k` is overwritten, read anywhere. -/
theorem update_step (X : FVec Ideal S4096x4x2048 .f32) (u : FVec Ideal S1x4x2048 .f32) (st : Fin 3 → ℤ) (h) (k j : Fin 4096) (b : Fin 4)
    (d : Fin 2048) (h0 : st 0 = (k.val : ℤ)) (h1 : st 1 = (0 : ℕ)) (h2 : st 2 = (0 : ℕ)) :
    Host.dynamicUpdateSlice X u st h (ix3 j b d) = if j = k then u (ix3 0 b d) else X (ix3 j b d) := by
  have e0 := Host.clampedStart_of_le h.1 st 0 k.val h0 (by show k.val + 1 ≤ 4096; omega)
  have e1 := Host.clampedStart_of_le h.1 st 1 0 h1 (by show 0 + 4 ≤ 4; omega)
  have e2 := Host.clampedStart_of_le h.1 st 2 0 h2 (by show 0 + 2048 ≤ 2048; omega)
  rw [Host.dynamicUpdateSlice_apply]
  by_cases hj : j = k
  · subst hj
    rw [if_pos rfl, dif_pos (fun a => by
      match a with
      | ⟨0, _⟩ => exact ⟨e0.le, by show j.val < Host.clampedStart _ _ h.1 st 0 + 1; rw [e0]; omega⟩
      | ⟨1, _⟩ => exact ⟨e1.le.trans (Nat.zero_le _), by show b.val < Host.clampedStart _ _ h.1 st 1 + 4; rw [e1]; omega⟩
      | ⟨2, _⟩ => exact ⟨e2.le.trans (Nat.zero_le _), by show d.val < Host.clampedStart _ _ h.1 st 2 + 2048; rw [e2]; omega⟩)]
    refine congrArg u (funext fun a => Fin.ext ?_)
    match a with
    | ⟨0, _⟩ => show j.val - Host.clampedStart _ _ h.1 st 0 = 0; rw [e0]; omega
    | ⟨1, _⟩ => show b.val - Host.clampedStart _ _ h.1 st 1 = b.val; rw [e1]; omega
    | ⟨2, _⟩ => show d.val - Host.clampedStart _ _ h.1 st 2 = d.val; rw [e2]; omega
  · rw [if_neg hj, dif_neg (fun hin => hj (Fin.ext (by
      have l : Host.clampedStart _ _ h.1 st 0 ≤ j.val := (hin 0).1
      have r : j.val < Host.clampedStart _ _ h.1 st 0 + 1 := (hin 0).2
      rw [e0] at l r
      omega)))]

/-- Where trip `k` slices the time axis: at `k`, and at 0 on the other axes. -/
abbrev starts (k : ℕ) : Fin 3 → ℤ := fun a =>
  ((![fun _ => BitVec.ofNat 32 k, constantI S_ 32 0#32, constantI S_ 32 0#32] : Fin 3 → S_.Idx → BitVec 32) a (Shape.Idx.first Gen.h_S_)).toInt

/-- One trip's new state: the old one times the trip's factor, plus the trip's term. -/
theorem new_state (V : Valuation τ sig (Elt Ideal)) (k : Fin 4096) (b : Fin 4) (d : Fin 2048)
    (hk : V (Proc.devRef .tc main_v30_2) = fun _ => BitVec.ofNat 32 k.val) (A B : FVec Ideal S4096x4x2048 .f32) (H : FVec Ideal S4x2048 .f32)
    (hA : V (Proc.devRef .tc main_v30_0) = A) (hB : V (Proc.devRef .tc main_v30_1) = B) (hH : V (Proc.devRef .tc main_v30_3) = H) :
    (res_main_while0b_v36 V : FVec Ideal S4x2048 .f32) (ix2 b d) = B (ix3 k b d) * H (ix2 b d) + A (ix3 k b d) := by
  have hw : (BitVec.ofNat 32 k.val).toInt = (k.val : ℤ) := toInt_ofNat_of_lt (by have := k.isLt; omega)
  rw [← slice_step A (starts k.val) Gen.sliceFits_S4096x4x2048_S1x4x2048 k b d hw rfl rfl,
    ← slice_step B (starts k.val) Gen.sliceFits_S4096x4x2048_S1x4x2048 k b d hw rfl rfl]
  unfold res_main_while0b_v36
  rw [hk, hA, hB, hH]
  clean_types
  pointwise
  rfl

/-- One trip's new results: time step `k` holds the new state, the others are as they were. -/
theorem new_result (V : Valuation τ sig (Elt Ideal)) (k j : Fin 4096) (b : Fin 4) (d : Fin 2048)
    (hk : V (Proc.devRef .tc main_v30_2) = fun _ => BitVec.ofNat 32 k.val) (H : FVec Ideal S4x2048 .f32) (O : FVec Ideal S4096x4x2048 .f32)
    (hH : res_main_while0b_v36 V = H) (hO : V (Proc.devRef .tc main_v30_4) = O) :
    (step_main_v30_4 V : FVec Ideal S4096x4x2048 .f32) (ix3 j b d) = if j = k then H (ix2 b d) else O (ix3 j b d) := by
  have hw : (BitVec.ofNat 32 k.val).toInt = (k.val : ℤ) := toInt_ofNat_of_lt (by have := k.isLt; omega)
  unfold step_main_v30_4
  rw [hk, hH, hO]
  refine (update_step O (broadcastInDim S1x4x2048 ![1, 2] Gen.bcast_S4x2048_S1x4x2048_1_2 H) (starts k.val) Gen.updateFits_S4096x4x2048_S1x4x2048 k j b d
    hw rfl rfl).trans ?_
  pointwise

/-- What the carried buffers hold before trip `k`, where the terms are `p n * x n` and the factors `1 - p n`: the counter is `k`, the state is the
    recurrence after `k` steps, and every time step before `k` of the results is the recurrence after that step. -/
structure At (p x : Fin 4 → Fin 2048 → ℕ → EReal) (k : ℕ) (V : Valuation τ sig (Elt Ideal)) : Prop where
  terms : ∀ (n : Fin 4096) b d, (V (Proc.devRef .tc main_v30_0) : FVec Ideal S4096x4x2048 .f32) (ix3 n b d) = p b d n.val * x b d n.val
  factors : ∀ (n : Fin 4096) b d, (V (Proc.devRef .tc main_v30_1) : FVec Ideal S4096x4x2048 .f32) (ix3 n b d) = 1 - p b d n.val
  counter : V (Proc.devRef .tc main_v30_2) = fun _ => BitVec.ofNat 32 k
  state : ∀ b d, (V (Proc.devRef .tc main_v30_3) : FVec Ideal S4x2048 .f32) (ix2 b d) = scan (p b d) (x b d) 0 k
  results : ∀ (n : Fin 4096) b d, n.val < k →
    (V (Proc.devRef .tc main_v30_4) : FVec Ideal S4096x4x2048 .f32) (ix3 n b d) = scan (p b d) (x b d) 0 (n.val + 1)

/-- One trip takes the contents before trip `k` to those before trip `k + 1`. -/
theorem At.step {p x : Fin 4 → Fin 2048 → ℕ → EReal} {k : ℕ} {V : Valuation τ sig (Elt Ideal)} (h : At p x k V) (hk : k < 4096) :
    At p x (k + 1) (STEP V) := by
  have hs : ∀ b d, (res_main_while0b_v36 V : FVec Ideal S4x2048 .f32) (ix2 b d) = scan (p b d) (x b d) 0 (k + 1) := fun b d => by
    rw [new_state V ⟨k, hk⟩ b d h.counter _ _ _ rfl rfl rfl, h.terms, h.factors, h.state]
    rfl
  refine ⟨?_, ?_, ?_, ?_, ?_⟩
  · rw [STEP_main_v30_0]; exact h.terms
  · rw [STEP_main_v30_1]; exact h.factors
  · rw [STEP_main_v30_2]
    unfold step_main_v30_2
    rw [h.counter]
    funext _
    show BitVec.ofNat 32 k + 1#32 = BitVec.ofNat 32 (k + 1)
    rw [BitVec.ofNat_add]
  · rw [STEP_main_v30_3]; exact hs
  · intro n b d hn
    rw [STEP_main_v30_4, new_result V ⟨k, hk⟩ n b d h.counter _ _ rfl rfl]
    by_cases hnk : n = ⟨k, hk⟩
    · rw [if_pos hnk, hs, hnk]
    · rw [if_neg hnk]
      exact h.results n b d (by have : n.val ≠ k := fun e => hnk (Fin.ext e); omega)

/-- After `k` trips from contents like those before trip 0, the contents are those before trip `k`. -/
theorem At.iterate {p x : Fin 4 → Fin 2048 → ℕ → EReal} {V : Valuation τ sig (Elt Ideal)} (h : At p x 0 V) :
    ∀ k, k ≤ 4096 → At p x k (STEP^[k] V)
  | 0, _ => h
  | k + 1, hk => by
    rw [Function.iterate_succ_apply']
    exact (At.iterate h k (by omega)).step (by omega)

end Cert.ReferenceIdeal.Ema
end
-- ==== Proof.RefEntry.lean ====
module

public import proofs.«01_k».proof.Proof.RefOps
public import proofs.«01_k».proof.Proof.RefLoop
public import Idealize.ShloMosaic.Lib.StableHlo.ReadAt
public import Idealize.ShloMosaic.Lib.Routing.OpsPair

@[expose] public section

set_option maxRecDepth 16384

noncomputable section

/-! What the reference's statements before the loop leave, where the mask is true everywhere: the probabilities clipped and in their own order, the
positions the result is gathered at, and the loop's carried buffers. -/

namespace Cert.ReferenceIdeal.Ema

open Cert.ReferenceIdeal Cert.ReferenceIdeal.Gen Cert.ReferenceIdeal.Value Cert.Ema Idealize.ShloMosaic Idealize.ShloMosaic.TcCoe Idealize.SL.Sem
open Idealize.ShloMosaic.StableHlo Idealize.ShloMosaic.WordCmp

/-- A read of a row's own positions, tested for range and selected against a filler, is the row. -/
theorem take_rows (x f : FVec Ideal S4x4096 .f32) (J Z T : IVec S4x4096x1 32) (one : IVec S_ 1) (hJ : ∀ b t, J (ix3 b t 0) = BitVec.ofNat 32 t.val)
    (hZ : ∀ i, Z i = 0#32) (hT : ∀ i, T i = 4095#32) (h1 : ∀ i, one i = 1#1) (b : Fin 4) (t : Fin 4096) :
    select (Host.reduce IntOp.andi (andi (cmpi .sge J Z) (cmpi .sle J T)) one reducesTo_S4x4096x1_S4x4096_d2 h_S_)
      (Host.gather gather_S4x4096_S4x4096x1_S4x4096_n_1_0_0_1_2_11 x J) f (ix2 b t) = x (ix2 b t) := by
  have hr := reduce_ones (andi (cmpi .sge J Z) (cmpi .sle J T)) one reducesTo_S4x4096x1_S4x4096_d2 h_S_ (fun i => by
    obtain ⟨b', t', z, rfl⟩ : ∃ (b' : Fin 4) (t' : Fin 4096) (z : Fin 1), i = ix3 b' t' z := ⟨_, _, _, eq_ix3 i⟩
    obtain rfl : z = 0 := Subsingleton.elim _ _
    show IntOp.andi (IntOp.cmpi .sge (J (ix3 b' t' 0)) (Z (ix3 b' t' 0))) (IntOp.cmpi .sle (J (ix3 b' t' 0)) (T (ix3 b' t' 0))) = 1#1
    rw [hJ, hZ, hT, cmpi_sge_ofNat (by omega) (by omega : 0 < 2 ^ 31), cmpi_sle_ofNat (by omega) (by omega : 4095 < 2 ^ 31),
      decide_eq_true (Nat.zero_le _), decide_eq_true (by omega : t'.val ≤ 4095)]
    rfl) h1 (ix2 b t)
  show Scalar.select _ _ _ = _
  rw [hr]
  exact gather_own x J b t (hJ b t)

/-- The same for a three-axis array read along its time axis. -/
theorem take_entries (x f : FVec Ideal S4x4096x2048 .f32) (J Z T : IVec S4x4096x2048x1 32) (one : IVec S_ 1)
    (hJ : ∀ b t d, J (ix4 b t d 0) = BitVec.ofNat 32 t.val) (hZ : ∀ i, Z i = 0#32) (hT : ∀ i, T i = 4095#32) (h1 : ∀ i, one i = 1#1) (b : Fin 4)
    (t : Fin 4096) (d : Fin 2048) :
    select (Host.reduce IntOp.andi (andi (cmpi .sge J Z) (cmpi .sle J T)) one reducesTo_S4x4096x2048x1_S4x4096x2048_d3 h_S_)
      (Host.gather gather_S4x4096x2048_S4x4096x2048x1_S4x4096x2048_n_1_02_02_1_3_111 x J) f (ix3 b t d) = x (ix3 b t d) := by
  have hr := reduce_ones (andi (cmpi .sge J Z) (cmpi .sle J T)) one reducesTo_S4x4096x2048x1_S4x4096x2048_d3 h_S_ (fun i => by
    obtain ⟨b', t', d', z, rfl⟩ : ∃ (b' : Fin 4) (t' : Fin 4096) (d' : Fin 2048) (z : Fin 1), i = ix4 b' t' d' z := ⟨_, _, _, _, eq_ix4 i⟩
    obtain rfl : z = 0 := Subsingleton.elim _ _
    show IntOp.andi (IntOp.cmpi .sge (J (ix4 b' t' d' 0)) (Z (ix4 b' t' d' 0))) (IntOp.cmpi .sle (J (ix4 b' t' d' 0)) (T (ix4 b' t' d' 0))) = 1#1
    rw [hJ, hZ, hT, cmpi_sge_ofNat (by omega) (by omega : 0 < 2 ^ 31), cmpi_sle_ofNat (by omega) (by omega : 4095 < 2 ^ 31),
      decide_eq_true (Nat.zero_le _), decide_eq_true (by omega : t'.val ≤ 4095)]
    rfl) h1 (ix3 b t d)
  show Scalar.select _ _ _ = _
  rw [hr]
  exact gather_own3 x J b t d (hJ b t d)

variable (V : Valuation τ sig (Elt Ideal))

/-- The probabilities: the second column of the third argument, clipped. -/
theorem clipped (b : Fin 4) (t : Fin 4096) :
    (after hostOps0_1 (after hostOps0 V) (Proc.devRef .tc main_v2) : FVec Ideal S4x4096 .f32) (ix2 b t)
      = clip ((V (Proc.devRef .tc main_arg2) : FVec Ideal S4x4096x2 .f32) (ix3 b t 1)) := by
  unfold clip
  after_reads_at
  rfl

/-- Under a mask that is true everywhere the sort keys count the positions. -/
theorem keys (hm : (V (Proc.devRef .tc main_arg1) : IVec S4x4096 1) = fun _ => 1#1) (b : Fin 4) (t : Fin 4096) :
    (after hostOps0_2 V (Proc.devRef .tc main_v10) : IVec S4x4096 32) (ix2 b t) = BitVec.ofNat 32 t.val := by
  after_reads_simp
  rw [hm]
  pointwise
  show BitVec.ofNat 32 t.val + 0#32 = _
  rw [BitVec.add_zero]

/-- Sorted by such keys the positions stay as they are. -/
theorem order (hk : ∀ (b : Fin 4) (t : Fin 4096), (V (Proc.devRef .tc main_v10) : IVec S4x4096 32) (ix2 b t) = BitVec.ofNat 32 t.val) (b : Fin 4)
    (t : Fin 4096) : (after hostOps0_3 V (Proc.devRef .tc main_v11) : IVec S4x4096 32) (ix2 b t) = BitVec.ofNat 32 t.val := by
  after_reads_simp
  simp -implicitDefEqProofs only [StableHlo.TRef.toBuf, StableHlo.TRef.ofBuf, cast_cast, cast_eq]
  clean_types
  rw [sort_counting _ _ hk]
  rfl

/-- The probabilities taken along the positions are the probabilities. -/
theorem taken (ho : ∀ (b : Fin 4) (t : Fin 4096), (V (Proc.devRef .tc main_v11) : IVec S4x4096 32) (ix2 b t) = BitVec.ofNat 32 t.val) (b : Fin 4)
    (t : Fin 4096) : (after hostOps0_4 V (Proc.devRef .tc main_v12) : FVec Ideal S4x4096 .f32) (ix2 b t)
      = (V (Proc.devRef .tc main_v2) : FVec Ideal S4x4096 .f32) (ix2 b t) := by
  after_reads_simp
  simp -implicitDefEqProofs only [StableHlo.TRef.toBuf, StableHlo.TRef.ofBuf, cast_cast, cast_eq]
  clean_types
  refine take_rows _ _ _ _ _ _ (fun b t => ?_) (fun _ => rfl) (fun _ => rfl) (fun _ => rfl) b t
  pointwise
  rw [ho]
  exact Routing.wrap_of_lt _ _ (by rw [BitVec.toNat_ofNat]; omega)

/-- The running count of a mask that is true everywhere. -/
theorem counted (hm : (V (Proc.devRef .tc main_arg1) : IVec S4x4096 1) = fun _ => 1#1) (b : Fin 4) (t : Fin 4096) :
    (after hostOps0_6 (after hostOps0_5 V) (Proc.devRef .tc main_v14) : IVec S4x4096 32) (ix2 b t) = BitVec.ofNat 32 (t.val + 1) := by
  have h13 : (after hostOps0_5 V (Proc.devRef .tc main_v13) : IVec S4x4096 32) = fun _ => 1#32 := by
    after_reads_simp
    rw [hm]
    rfl
  generalize after hostOps0_5 V = W at h13
  after_reads_simp
  simp -implicitDefEqProofs only [StableHlo.TRef.toBuf, StableHlo.TRef.ofBuf, cast_cast, cast_eq]
  clean_types
  rw [h13]
  exact running_ones _ (fun _ => rfl) _ (fun _ => rfl) b t

/-- The positions the result is gathered at are the result's own. -/
theorem places (hc : ∀ (b : Fin 4) (t : Fin 4096), (V (Proc.devRef .tc main_v14) : IVec S4x4096 32) (ix2 b t) = BitVec.ofNat 32 (t.val + 1))
    (b : Fin 4) (t : Fin 4096) (d : Fin 2048) : (after hostOps0_7 V (Proc.devRef .tc main_v18) : IVec S4x4096x2048 32) (ix3 b t d) = BitVec.ofNat 32 t.val := by
  after_reads_simp
  pointwise
  rw [hc]
  show BitVec.ofNat 32 (t.val + 1) - 1#32 = _
  rw [BitVec.ofNat_add, BitVec.add_sub_cancel]

/-- The loop starts on the products and factors of the recurrence, by time step, with a zero state. -/
theorem starting (p : Fin 4 → ℕ → EReal) (x : Fin 4 → Fin 2048 → ℕ → EReal)
    (hp : ∀ (b : Fin 4) (t : Fin 4096), (V (Proc.devRef .tc main_v12) : FVec Ideal S4x4096 .f32) (ix2 b t) = p b t.val)
    (hx : ∀ (b : Fin 4) (t : Fin 4096) (d : Fin 2048), (V (Proc.devRef .tc main_arg0) : FVec Ideal S4x4096x2048 .f32) (ix3 b t d) = x b d t.val) :
    At (fun b _ => p b) x 0 (after hostOps0_7 V) where
  terms n b d := by
    after_reads_simp
    rw [id]
    pointwise
    rw [hp, hx]
  factors n b d := by
    after_reads_simp
    rw [id]
    pointwise
    rw [hp]
  counter := by
    after_reads_simp
    rfl
  state b d := by
    after_reads_simp
    rw [id]
    pointwise
    rfl
  results n b d h := absurd h (Nat.not_lt_zero _)

variable (m : (ℓ : Loc nD τ sig) → Buf (Elt Ideal) ℓ)

/-- The clipped probabilities of a batch row as a sequence, nought after the last time step. -/
def prob (c : Dev nD) (b : Fin 4) (n : ℕ) : EReal :=
  if h : n < 4096 then clip ((m ((c.tc : Thread nD τ).loc main_arg2) : FVec Ideal S4x4096x2 .f32) (ix3 b ⟨n, h⟩ 1)) else 0

/-- The inputs of a batch row's channel as a sequence, nought after the last time step. -/
def entry (c : Dev nD) (b : Fin 4) (d : Fin 2048) (n : ℕ) : EReal :=
  if h : n < 4096 then (m ((c.tc : Thread nD τ).loc main_arg0) : FVec Ideal S4x4096x2048 .f32) (ix3 b ⟨n, h⟩ d) else 0

/-- A buffer no statement before the loop writes holds at the loop what it held at the start. -/
theorem entry_keeps (c : Dev nD) (r : Ref sig .tc)
    (h : r ∉ hostOps0_W ++ hostOps0_1_W ++ hostOps0_2_W ++ hostOps0_3_W ++ hostOps0_4_W ++ hostOps0_5_W ++ hostOps0_6_W ++ hostOps0_7_W) :
    entryContents preI m c (Proc.devRef .tc r) = launchContents m c (Proc.devRef .tc r) := by
  simp only [List.mem_append, not_or] at h
  obtain ⟨⟨⟨⟨⟨⟨⟨h0, h1⟩, h2⟩, h3⟩, h4⟩, h5⟩, h6⟩, h7⟩ := h
  simp only [entryContents, afterL_cons, afterL_nil]
  rw [after_of_writes_sub _ _ hostOps0_7_writes h7, after_of_writes_sub _ _ hostOps0_6_writes h6, after_of_writes_sub _ _ hostOps0_5_writes h5,
    after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

/-- Where the mask is true everywhere, the loop starts on the recurrence of the clipped probabilities and the inputs, and the positions the result
is gathered at are its own. -/
theorem entry_holds (c : Dev nD) (hm : (m ((c.tc : Thread nD τ).loc main_arg1) : IVec S4x4096 1) = fun _ => 1#1) :
    At (fun b _ => prob m c b) (entry m c) 0 (entryContents preI m c)
    ∧ ∀ (b : Fin 4) (t : Fin 4096) (d : Fin 2048), (entryContents preI m c (Proc.devRef .tc main_v18) : IVec S4x4096x2048 32) (ix3 b t d) = BitVec.ofNat 32 t.val := by
  simp only [entryContents, afterL_cons, afterL_nil]
  have a0 : launchContents m c (Proc.devRef .tc main_arg0) = m ((c.tc : Thread nD τ).loc main_arg0) := rfl
  have a1 : launchContents m c (Proc.devRef .tc main_arg1) = m ((c.tc : Thread nD τ).loc main_arg1) := rfl
  have a2 : launchContents m c (Proc.devRef .tc main_arg2) = m ((c.tc : Thread nD τ).loc main_arg2) := rfl
  generalize launchContents m c = V at a0 a1 a2 ⊢
  have c1 := clipped V
  have m1 : after hostOps0_1 (after hostOps0 V) (Proc.devRef .tc main_arg1) = V (Proc.devRef .tc main_arg1) :=
    (after_of_writes_sub _ _ hostOps0_1_writes (by decide +kernel)).trans (after_of_writes_sub _ _ hostOps0_writes (by decide +kernel))
  have x1 : after hostOps0_1 (after hostOps0 V) (Proc.devRef .tc main_arg0) = V (Proc.devRef .tc main_arg0) :=
    (after_of_writes_sub _ _ hostOps0_1_writes (by decide +kernel)).trans (after_of_writes_sub _ _ hostOps0_writes (by decide +kernel))
  generalize after hostOps0_1 (after hostOps0 V) = V1 at c1 m1 x1 ⊢
  have k2 := order _ (keys V1 (m1.trans (a1.trans hm)))
  have c2 : after hostOps0_3 (after hostOps0_2 V1) (Proc.devRef .tc main_v2) = V1 (Proc.devRef .tc main_v2) :=
    (after_of_writes_sub _ _ hostOps0_3_writes (by decide +kernel)).trans (after_of_writes_sub _ _ hostOps0_2_writes (by decide +kernel))
  have m2 : after hostOps0_3 (after hostOps0_2 V1) (Proc.devRef .tc main_arg1) = V1 (Proc.devRef .tc main_arg1) :=
    (after_of_writes_sub _ _ hostOps0_3_writes (by decide +kernel)).trans (after_of_writes_sub _ _ hostOps0_2_writes (by decide +kernel))
  have x2 : after hostOps0_3 (after hostOps0_2 V1) (Proc.devRef .tc main_arg0) = V1 (Proc.devRef .tc main_arg0) :=
    (after_of_writes_sub _ _ hostOps0_3_writes (by decide +kernel)).trans (after_of_writes_sub _ _ hostOps0_2_writes (by decide +kernel))
  generalize after hostOps0_3 (after hostOps0_2 V1) = V2 at k2 c2 m2 x2 ⊢
  have p3 := taken V2 k2
  have m3 : after hostOps0_4 V2 (Proc.devRef .tc main_arg1) = V2 (Proc.devRef .tc main_arg1) :=
    after_of_writes_sub _ _ hostOps0_4_writes (by decide +kernel)
  have x3 : after hostOps0_4 V2 (Proc.devRef .tc main_arg0) = V2 (Proc.devRef .tc main_arg0) :=
    after_of_writes_sub _ _ hostOps0_4_writes (by decide +kernel)
  generalize after hostOps0_4 V2 = V3 at p3 m3 x3 ⊢
  have n4 := counted V3 (m3.trans (m2.trans (m1.trans (a1.trans hm))))
  have p4 : after hostOps0_6 (after hostOps0_5 V3) (Proc.devRef .tc main_v12) = V3 (Proc.devRef .tc main_v12) :=
    (after_of_writes_sub _ _ hostOps0_6_writes (by decide +kernel)).trans (after_of_writes_sub _ _ hostOps0_5_writes (by decide +kernel))
  have x4 : after hostOps0_6 (after hostOps0_5 V3) (Proc.devRef .tc main_arg0) = V3 (Proc.devRef .tc main_arg0) :=
    (after_of_writes_sub _ _ hostOps0_6_writes (by decide +kernel)).trans (after_of_writes_sub _ _ hostOps0_5_writes (by decide +kernel))
  generalize after hostOps0_6 (after hostOps0_5 V3) = V4 at n4 p4 x4 ⊢
  refine ⟨starting V4 (prob m c) (entry m c) (fun b t => ?_) (fun b t d => ?_), places V4 n4⟩
  · rw [prob, dif_pos t.isLt, p4, p3, c2, c1, a2]
  · rw [entry, dif_pos t.isLt, x4, x3, x2, x1, a0]

end Cert.ReferenceIdeal.Ema
end
-- ==== Proof.RefRun.lean ====
module

public import proofs.«01_k».proof.Proof.RefEntry

@[expose] public section

set_option maxRecDepth 16384

noncomputable section

/-! What the reference's run leaves: its arguments as they were, and, where the mask is true everywhere, the states of the recurrence. -/

namespace Cert.ReferenceIdeal.Ema

open Cert.ReferenceIdeal Cert.ReferenceIdeal.Gen Cert.ReferenceIdeal.Value Cert.Ema Idealize.ShloMosaic Idealize.ShloMosaic.TcCoe Idealize.SL.Sem
open Idealize.ShloMosaic.StableHlo Idealize.ShloMosaic.WordCmp

/-- The buffer the transposition after the loop writes. -/
abbrev hostOps0_8_W : List (Ref sig .tc) := [main_v31]

/-- It writes no other. -/
theorem hostOps0_8_writes : (hostOps0_8 : List (HloOp τ sig (Elt Ideal))).Forall fun op => op.writes ⊆ (hostOps0_8_W.map (Proc.devRef (τ := τ) .tc)).toFinset :=
  StableHlo.forall_writes_sub_of_map rfl

/-- The buffers the last gather's statements write. -/
abbrev hostOps0_9_W : List (Ref sig .tc) := [main_call7_c, main_call7_v0, main_call7_v1, main_call7_c_0, main_call7_v2, main_call7_v3, main_call7_v4,
  main_call7_v5, main_call7_c_1, main_call7_c_2, main_call7_v6, main_call7_v7, main_call7_v8, main_call7_v9, main_call7_v10, main_call7_v11,
  main_call7_c_3, main_call7_v12, main_call7_v13, main_call7_cst, main_call7_v14, main_v32]

/-- They write no other. -/
theorem hostOps0_9_writes : (hostOps0_9 : List (HloOp τ sig (Elt Ideal))).Forall fun op => op.writes ⊆ (hostOps0_9_W.map (Proc.devRef (τ := τ) .tc)).toFinset :=
  StableHlo.forall_writes_sub_of_map rfl

/-- The result gathered at its own positions: the loop's results with batch and time exchanged. -/
theorem gathered (V : Valuation τ sig (Elt Ideal))
    (hp : ∀ (b : Fin 4) (t : Fin 4096) (d : Fin 2048), (V (Proc.devRef .tc main_v18) : IVec S4x4096x2048 32) (ix3 b t d) = BitVec.ofNat 32 t.val)
    (b : Fin 4) (t : Fin 4096) (d : Fin 2048) :
    (after hostOps0_9 (after hostOps0_8 V) (Proc.devRef .tc main_v32) : FVec Ideal S4x4096x2048 .f32) (ix3 b t d)
      = (V (Proc.devRef .tc main_v30_4) : FVec Ideal S4096x4x2048 .f32) (ix3 t b d) := by
  have h31 : ∀ (b : Fin 4) (t : Fin 4096) (d : Fin 2048), (after hostOps0_8 V (Proc.devRef .tc main_v31) : FVec Ideal S4x4096x2048 .f32) (ix3 b t d)
      = (V (Proc.devRef .tc main_v30_4) : FVec Ideal S4096x4x2048 .f32) (ix3 t b d) := fun b t d => by
    after_reads_at
  have h18 : after hostOps0_8 V (Proc.devRef .tc main_v18) = V (Proc.devRef .tc main_v18) :=
    after_of_writes_sub _ _ hostOps0_8_writes (by decide +kernel)
  rw [← h31]
  generalize after hostOps0_8 V = W at h18 ⊢
  after_reads_simp
  simp -implicitDefEqProofs only [StableHlo.TRef.toBuf, StableHlo.TRef.ofBuf, cast_cast, cast_eq]
  clean_types
  refine take_entries _ _ _ _ _ _ (fun b t d => ?_) (fun _ => rfl) (fun _ => rfl) (fun _ => rfl) b t d
  pointwise
  rw [h18, hp]
  exact Routing.wrap_of_lt _ _ (by rw [BitVec.toNat_ofNat]; omega)

/-- A buffer neither the loop's condition nor its body writes holds after any number of trips what it held before the first. -/
theorem trips_keep (W₀ : Dev nD → Valuation τ sig (Elt Ideal)) (c : Dev nD) (r : Ref sig .tc)
    (h : r ∉ condOps_W ++ while0Ops0_W ++ while0Ops0_1_W ++ while0Ops0_2_W ++ while0Ops0_3_W ++ while0Ops0_4_W) :
    ∀ k, after condOps (atTrip condOps bodyI W₀ k c) (Proc.devRef .tc r) = W₀ c (Proc.devRef .tc r) := by
  simp only [List.mem_append, not_or] at h
  obtain ⟨⟨⟨⟨⟨h, h0⟩, h1⟩, h2⟩, h3⟩, h4⟩ := h
  intro k
  induction k with
  | zero => exact after_of_writes_sub _ _ condOps_writes h
  | succ k ih =>
    rw [after_of_writes_sub _ _ condOps_writes h, atTrip_succ]
    simp only [afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, ih]

variable (m : (ℓ : Loc nD τ sig) → Buf (Elt Ideal) ℓ)

/-- A buffer no statement writes holds at the end what it held at the start. -/
theorem final_keeps (c : Dev nD) (r : Ref sig .tc)
    (hp : r ∉ hostOps0_W ++ hostOps0_1_W ++ hostOps0_2_W ++ hostOps0_3_W ++ hostOps0_4_W ++ hostOps0_5_W ++ hostOps0_6_W ++ hostOps0_7_W)
    (hl : r ∉ condOps_W ++ while0Ops0_W ++ while0Ops0_1_W ++ while0Ops0_2_W ++ while0Ops0_3_W ++ while0Ops0_4_W)
    (he : r ∉ hostOps0_8_W ++ hostOps0_9_W) :
    finalContents condOps preI bodyI postI 4096 m c (Proc.devRef .tc r) = m ((c.tc : Thread nD τ).loc r) := by
  rw [List.mem_append, not_or] at he
  simp only [finalContents, afterL_cons, afterL_nil]
  rw [after_of_writes_sub _ _ hostOps0_9_writes he.2, after_of_writes_sub _ _ hostOps0_8_writes he.1, trips_keep (entryContents preI m) c r hl, entry_keeps m c r hp]

/-- Where the mask is true everywhere, the reference's result at a batch, a time step and a channel is the recurrence's state after that time step. -/
theorem final_apply (c : Dev nD) (hm : (m ((c.tc : Thread nD τ).loc main_arg1) : IVec S4x4096 1) = fun _ => 1#1) (b : Fin 4) (t : Fin 4096)
    (d : Fin 2048) : (finalContents condOps preI bodyI postI 4096 m c (Proc.devRef .tc main_v32) : FVec Ideal S4x4096x2048 .f32) (ix3 b t d)
      = scan (prob m c b) (entry m c b d) 0 (t.val + 1) := by
  obtain ⟨hA, hP⟩ := entry_holds m c hm
  have hR := (At.iterate hA 4096 le_rfl).results t b d t.isLt
  have hK : after condOps (atTrip condOps bodyI (entryContents preI m) 4096 c) (Proc.devRef .tc main_v30_4)
      = STEP^[4096] (entryContents preI m c) (Proc.devRef .tc main_v30_4) :=
    (cond_keeps _ main_v30_4 (by decide)).trans (atK_agree m c 4096 main_v30_4 (by decide))
  have h18 := trips_keep (entryContents preI m) c main_v18 (by decide +kernel) 4096
  simp only [finalContents, afterL_cons, afterL_nil]
  generalize after condOps (atTrip condOps bodyI (entryContents preI m) 4096 c) = W at hK h18 ⊢
  rw [gathered W (fun b t d => by rw [h18]; exact hP b t d), hK]
  exact hR

/-- The reference runs; its arguments end as they were, and its result is what its statements leave in order. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32) = finalContents condOps preI bodyI postI 4096 m c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
    ⟨h c main_v32 (by decide +kernel),
     (h c main_arg0 (by decide +kernel)).trans (final_keeps m c main_arg0 (by decide +kernel) (by decide +kernel) (by decide +kernel)),
     (h c main_arg1 (by decide +kernel)).trans (final_keeps m c main_arg1 (by decide +kernel) (by decide +kernel) (by decide +kernel)),
     (h c main_arg2 (by decide +kernel)).trans (final_keeps m c main_arg2 (by decide +kernel) (by decide +kernel) (by decide +kernel))⟩) (run_fold m ρ)

end Cert.ReferenceIdeal.Ema
end
-- ==== Proof.lean ====
module

public import proofs.«01_k».proof.Defs
public import proofs.«01_k».proof.Proof.Gen.Kernel.Frame
public import proofs.«01_k».proof.Proof.Gen.KernelIdeal.Value
public import proofs.«01_k».proof.Proof.KerFold
public import proofs.«01_k».proof.Proof.RefRun
public import Idealize.ShloMosaic.Adequacy
public import Idealize.ShloMosaic.Init
public import Idealize.ShloMosaic.Lib.Quiescent

@[expose] public section

noncomputable section

/-! The claims, assembled: the kernel's result and the reference's are both the recurrence's states, entry by entry. -/

namespace Cert.Proof

open Idealize.ShloMosaic Idealize.SL.Sem

/-- The reference runs, leaves its arguments as they were, and has no semaphore to leave raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Ema.run m ρ)

/-- From memories that agree on the arguments, the mask true everywhere, the reference's result array is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : (m' ((c.tc : Thread Cert.ReferenceIdeal.nD Cert.ReferenceIdeal.τ).loc Cert.ReferenceIdeal.main_arg1) : IVec Cert.ReferenceIdeal.S4x4096 1)
      = fun _ => 1#1)
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (StableHlo.finalContents Cert.ReferenceIdeal.Value.condOps Cert.ReferenceIdeal.Value.preI Cert.ReferenceIdeal.Value.bodyI
      Cert.ReferenceIdeal.Value.postI 4096 m' c (Proc.devRef .tc Cert.ReferenceIdeal.main_v32) : FVec Ideal Cert.ReferenceIdeal.S4x4096x2048 .f32)
      = (Cert.KernelIdeal.Value.G2 m c : FVec Ideal Cert.KernelIdeal.S4x4096x2048 .f32) := by
  have hp : ∀ b, Cert.ReferenceIdeal.Ema.prob m' c b = Cert.KernelIdeal.Ema.prob m c b := fun b => by
    unfold Cert.ReferenceIdeal.Ema.prob Cert.KernelIdeal.Ema.prob
    rw [h2]
  have he : ∀ b d, Cert.ReferenceIdeal.Ema.entry m' c b d = Cert.KernelIdeal.Ema.entry m c b d := fun b d => by
    unfold Cert.ReferenceIdeal.Ema.entry Cert.KernelIdeal.Ema.entry
    rw [h0]
  funext i
  obtain ⟨b, t, d, rfl⟩ : ∃ (b : Fin 4) (t : Fin 4096) (d : Fin 2048), i = ix3 b t d := ⟨_, _, _, eq_ix3 i⟩
  refine (Cert.ReferenceIdeal.Ema.final_apply m' c h1 b t d).trans ?_
  rw [hp, he]
  exact (Cert.KernelIdeal.Ema.result_apply m c b t d).symm

/-- Where the mask is true everywhere, kernel and reference end with equal results. -/
theorem algebraic_KernelIdeal_ReferenceIdeal [Cert.Pre_every_token_is_a_boundary.Facts] :
    algebraic_KernelIdeal_ReferenceIdeal_pre_every_token_is_a_boundary := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Ema.run m' ρ')
  exact (h c).1.trans (result_eq m m' c (hagree c).1 ((hagree c).2.1.trans (hpre c)) (hagree c).2.2)

/-- All of the claims. -/
theorem claim : Cert.Claim := ⟨Cert.Kernel.Gen.facts, Cert.KernelIdeal.Gen.facts, Cert.ReferenceIdeal.Gen.facts, ⟨⟩,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal),
  @algebraic_KernelIdeal_ReferenceIdeal ⟨⟩⟩

end Cert.Proof

end
